-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v109) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2x513x2048 : Shape := ⟨4, ![4, 2, 513, 2048]⟩
abbrev S1x1x513x2048 : Shape := ⟨4, ![1, 1, 513, 2048]⟩
abbrev S1x1x513x256 : Shape := ⟨4, ![1, 1, 513, 256]⟩
abbrev S2088x513 : Shape := ⟨2, ![2088, 513]⟩
abbrev S513x2048 : Shape := ⟨2, ![513, 2048]⟩
abbrev S8x513 : Shape := ⟨2, ![8, 513]⟩
abbrev S32x513 : Shape := ⟨2, ![32, 513]⟩
abbrev S513x256 : Shape := ⟨2, ![513, 256]⟩
abbrev S256x513 : Shape := ⟨2, ![256, 513]⟩
abbrev S287x513 : Shape := ⟨2, ![287, 513]⟩
abbrev S286x513 : Shape := ⟨2, ![286, 513]⟩
abbrev S284x513 : Shape := ⟨2, ![284, 513]⟩
abbrev S280x513 : Shape := ⟨2, ![280, 513]⟩
abbrev S272x513 : Shape := ⟨2, ![272, 513]⟩
abbrev S8x256 : Shape := ⟨2, ![8, 256]⟩
abbrev S31x256 : Shape := ⟨2, ![31, 256]⟩
abbrev S552x256 : Shape := ⟨2, ![552, 256]⟩
abbrev S543x256 : Shape := ⟨2, ![543, 256]⟩
abbrev S541x256 : Shape := ⟨2, ![541, 256]⟩
abbrev S537x256 : Shape := ⟨2, ![537, 256]⟩
abbrev S529x256 : Shape := ⟨2, ![529, 256]⟩

abbrev nBuf : Space → Nat
  | .hbm => 3
  | .vmem => 7
  | .smem => 0
  | _ => 0

abbrev bufTy : (tb : Table) → Fin (tcTables nBuf tb) → BufTy
  | .hbm, ⟨0, _⟩ => ⟨S4x2x513x2048, .f32⟩
  | .hbm, ⟨1, _⟩ => ⟨S4x2x513x2048, .f32⟩
  | .hbm, ⟨2, _⟩ => ⟨S4x2x513x2048, .f32⟩
  | .local _ .vmem, ⟨0, _⟩ => ⟨S1x1x513x2048, .f32⟩
  | .local _ .vmem, ⟨1, _⟩ => ⟨S1x1x513x2048, .f32⟩
  | .local _ .vmem, ⟨2, _⟩ => ⟨S1x1x513x256, .f32⟩
  | .local _ .vmem, ⟨3, _⟩ => ⟨S1x1x513x256, .f32⟩
  | .local _ .vmem, ⟨4, _⟩ => ⟨S1x1x513x256, .f32⟩
  | .local _ .vmem, ⟨5, _⟩ => ⟨S1x1x513x256, .f32⟩
  | .local _ .vmem, ⟨6, _⟩ => ⟨S2088x513, .bf16⟩
  | _, _ => ⟨S4x2x513x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v5 : Index := Scalar.indexCast v1
  let c0 : Index := 0#32
  ![v5.toNat, 0]
def k0_off2 (i : grid0.Coords) : Fin 4 → Nat :=
  let c0_1 : Index := 0#32
  let c0_2 : Index := 0#32
  let c0_3 : Index := 0#32
  let arg1 : BitVec 32 := BitVec.ofNat 32 (i 1).val
  let c256_i32 : BitVec 32 := 256#32
  let v0 : BitVec 32 := Scalar.muli arg1 c256_i32
  let v1 : BitVec 32 := v0
  let v86 : Index := Scalar.indexCast v1
  ![0, 0, 0, v86.toNat]
def cc0_transform_0 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

abbrev stage0_0 : Fin 2 → Memref sig .tc .vmem S1x1x513x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x513x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x513x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2x513x2048 : Shape := ⟨4, ![4, 2, 513, 2048]⟩
abbrev S_ : Shape := ⟨0, ![]⟩
abbrev S4x2x513x2064 : Shape := ⟨4, ![4, 2, 513, 2064]⟩
abbrev S4x2x513x2048x1 : Shape := ⟨5, ![4, 2, 513, 2048, 1]⟩
abbrev S4x2x513x2048x16 : Shape := ⟨5, ![4, 2, 513, 2048, 16]⟩
abbrev S4x2x513x2048x17 : Shape := ⟨5, ![4, 2, 513, 2048, 17]⟩
abbrev S4x2x529x2048 : Shape := ⟨4, ![4, 2, 529, 2048]⟩

abbrev nBuf : Space → Nat
  | .hbm => 263
  | .vmem => 0
  | .smem => 0
  | _ => 0

abbrev hbmTy0_0 (i : Nat) : BufTy := match i % 128 with
  | 0 => ⟨S4x2x513x2048, .f32⟩
  | 1 => ⟨S_, .i32⟩
  | 2 => ⟨S_, .f32⟩
  | 3 => ⟨S4x2x513x2064, .f32⟩
  | 4 => ⟨S_, .i32⟩
  | 5 => ⟨S_, .i32⟩
  | 6 => ⟨S_, .i32⟩
  | 7 => ⟨S_, .i32⟩
  | 8 => ⟨S4x2x513x2048, .f32⟩
  | 9 => ⟨S4x2x513x2048x1, .f32⟩
  | 10 => ⟨S_, .i32⟩
  | 11 => ⟨S_, .i32⟩
  | 12 => ⟨S_, .i32⟩
  | 13 => ⟨S_, .i32⟩
  | 14 => ⟨S4x2x513x2048, .f32⟩
  | 15 => ⟨S4x2x513x2048x1, .f32⟩
  | 16 => ⟨S_, .i32⟩
  | 17 => ⟨S_, .i32⟩
  | 18 => ⟨S_, .i32⟩
  | 19 => ⟨S_, .i32⟩
  | 20 => ⟨S4x2x513x2048, .f32⟩
  | 21 => ⟨S4x2x513x2048x1, .f32⟩
  | 22 => ⟨S_, .i32⟩
  | 23 => ⟨S_, .i32⟩
  | 24 => ⟨S_, .i32⟩
  | 25 => ⟨S_, .i32⟩
  | 26 => ⟨S4x2x513x2048, .f32⟩
  | 27 => ⟨S4x2x513x2048x1, .f32⟩
  | 28 => ⟨S_, .i32⟩
  | 29 => ⟨S_, .i32⟩
  | 30 => ⟨S_, .i32⟩
  | 31 => ⟨S_, .i32⟩
  | 32 => ⟨S4x2x513x2048, .f32⟩
  | 33 => ⟨S4x2x513x2048x1, .f32⟩
  | 34 => ⟨S_, .i32⟩
  | 35 => ⟨S_, .i32⟩
  | 36 => ⟨S_, .i32⟩
  | 37 => ⟨S_, .i32⟩
  | 38 => ⟨S4x2x513x2048, .f32⟩
  | 39 => ⟨S4x2x513x2048x1, .f32⟩
  | 40 => ⟨S_, .i32⟩
  | 41 => ⟨S_, .i32⟩
  | 42 => ⟨S_, .i32⟩
  | 43 => ⟨S_, .i32⟩
  | 44 => ⟨S4x2x513x2048, .f32⟩
  | 45 => ⟨S4x2x513x2048x1, .f32⟩
  | 46 => ⟨S_, .i32⟩
  | 47 => ⟨S_, .i32⟩
  | 48 => ⟨S_, .i32⟩
  | 49 => ⟨S_, .i32⟩
  | 50 => ⟨S4x2x513x2048, .f32⟩
  | 51 => ⟨S4x2x513x2048x1, .f32⟩
  | 52 => ⟨S_, .i32⟩
  | 53 => ⟨S_, .i32⟩
  | 54 => ⟨S_, .i32⟩
  | 55 => ⟨S_, .i32⟩
  | 56 => ⟨S4x2x513x2048, .f32⟩
  | 57 => ⟨S4x2x513x2048x1, .f32⟩
  | 58 => ⟨S_, .i32⟩
  | 59 => ⟨S_, .i32⟩
  | 60 => ⟨S_, .i32⟩
  | 61 => ⟨S_, .i32⟩
  | 62 => ⟨S4x2x513x2048, .f32⟩
  | 63 => ⟨S4x2x513x2048x1, .f32⟩
  | 64 => ⟨S_, .i32⟩
  | 65 => ⟨S_, .i32⟩
  | 66 => ⟨S_, .i32⟩
  | 67 => ⟨S_, .i32⟩
  | 68 => ⟨S4x2x513x2048, .f32⟩
  | 69 => ⟨S4x2x513x2048x1, .f32⟩
  | 70 => ⟨S_, .i32⟩
  | 71 => ⟨S_, .i32⟩
  | 72 => ⟨S_, .i32⟩
  | 73 => ⟨S_, .i32⟩
  | 74 => ⟨S4x2x513x2048, .f32⟩
  | 75 => ⟨S4x2x513x2048x1, .f32⟩
  | 76 => ⟨S_, .i32⟩
  | 77 => ⟨S_, .i32⟩
  | 78 => ⟨S_, .i32⟩
  | 79 => ⟨S_, .i32⟩
  | 80 => ⟨S4x2x513x2048, .f32⟩
  | 81 => ⟨S4x2x513x2048x1, .f32⟩
  | 82 => ⟨S_, .i32⟩
  | 83 => ⟨S_, .i32⟩
  | 84 => ⟨S_, .i32⟩
  | 85 => ⟨S_, .i32⟩
  | 86 => ⟨S4x2x513x2048, .f32⟩
  | 87 => ⟨S4x2x513x2048x1, .f32⟩
  | 88 => ⟨S_, .i32⟩
  | 89 => ⟨S_, .i32⟩
  | 90 => ⟨S_, .i32⟩
  | 91 => ⟨S_, .i32⟩
  | 92 => ⟨S4x2x513x2048, .f32⟩
  | 93 => ⟨S4x2x513x2048x1, .f32⟩
  | 94 => ⟨S_, .i32⟩
  | 95 => ⟨S_, .i32⟩
  | 96 => ⟨S_, .i32⟩
  | 97 => ⟨S_, .i32⟩
  | 98 => ⟨S4x2x513x2048, .f32⟩
  | 99 => ⟨S4x2x513x2048x1, .f32⟩
  | 100 => ⟨S_, .i32⟩
  | 101 => ⟨S_, .i32⟩
  | 102 => ⟨S_, .i32⟩
  | 103 => ⟨S_, .i32⟩
  | 104 => ⟨S4x2x513x2048, .f32⟩
  | 105 => ⟨S4x2x513x2048x1, .f32⟩
  | 106 => ⟨S4x2x513x2048x16, .f32⟩
  | 107 => ⟨S4x2x513x2048x17, .f32⟩
  | 108 => ⟨S4x2x513x2048x17, .f32⟩
  | 109 => ⟨S4x2x513x2048x1, .f32⟩
  | 110 => ⟨S4x2x513x2048, .f32⟩
  | 111 => ⟨S_, .i32⟩
  | 112 => ⟨S_, .f32⟩
  | 113 => ⟨S4x2x529x2048, .f32⟩
  | 114 => ⟨S_, .i32⟩
  | 115 => ⟨S_, .i32⟩
  | 116 => ⟨S_, .i32⟩
  | 117 => ⟨S_, .i32⟩
  | 118 => ⟨S4x2x513x2048, .f32⟩
  | 119 => ⟨S4x2x513x2048x1, .f32⟩
  | 120 => ⟨S_, .i32⟩
  | 121 => ⟨S_, .i32⟩
  | 122 => ⟨S_, .i32⟩
  | 123 => ⟨S_, .i32⟩
  | 124 => ⟨S4x2x513x2048, .f32⟩
  | 125 => ⟨S4x2x513x2048x1, .f32⟩
  | 126 => ⟨S_, .i32⟩
  | 127 => ⟨S_, .i32⟩
  | _ => ⟨S4x2x513x2048, .f32⟩

abbrev hbmTy0_1 (i : Nat) : BufTy := match i % 128 with
  | 0 => ⟨S_, .i32⟩
  | 1 => ⟨S_, .i32⟩
  | 2 => ⟨S4x2x513x2048, .f32⟩
  | 3 => ⟨S4x2x513x2048x1, .f32⟩
  | 4 => ⟨S_, .i32⟩
  | 5 => ⟨S_, .i32⟩
  | 6 => ⟨S_, .i32⟩
  | 7 => ⟨S_, .i32⟩
  | 8 => ⟨S4x2x513x2048, .f32⟩
  | 9 => ⟨S4x2x513x2048x1, .f32⟩
  | 10 => ⟨S_, .i32⟩
  | 11 => ⟨S_, .i32⟩
  | 12 => ⟨S_, .i32⟩
  | 13 => ⟨S_, .i32⟩
  | 14 => ⟨S4x2x513x2048, .f32⟩
  | 15 => ⟨S4x2x513x2048x1, .f32⟩
  | 16 => ⟨S_, .i32⟩
  | 17 => ⟨S_, .i32⟩
  | 18 => ⟨S_, .i32⟩
  | 19 => ⟨S_, .i32⟩
  | 20 => ⟨S4x2x513x2048, .f32⟩
  | 21 => ⟨S4x2x513x2048x1, .f32⟩
  | 22 => ⟨S_, .i32⟩
  | 23 => ⟨S_, .i32⟩
  | 24 => ⟨S_, .i32⟩
  | 25 => ⟨S_, .i32⟩
  | 26 => ⟨S4x2x513x2048, .f32⟩
  | 27 => ⟨S4x2x513x2048x1, .f32⟩
  | 28 => ⟨S_, .i32⟩
  | 29 => ⟨S_, .i32⟩
  | 30 => ⟨S_, .i32⟩
  | 31 => ⟨S_, .i32⟩
  | 32 => ⟨S4x2x513x2048, .f32⟩
  | 33 => ⟨S4x2x513x2048x1, .f32⟩
  | 34 => ⟨S_, .i32⟩
  | 35 => ⟨S_, .i32⟩
  | 36 => ⟨S_, .i32⟩
  | 37 => ⟨S_, .i32⟩
  | 38 => ⟨S4x2x513x2048, .f32⟩
  | 39 => ⟨S4x2x513x2048x1, .f32⟩
  | 40 => ⟨S_, .i32⟩
  | 41 => ⟨S_, .i32⟩
  | 42 => ⟨S_, .i32⟩
  | 43 => ⟨S_, .i32⟩
  | 44 => ⟨S4x2x513x2048, .f32⟩
  | 45 => ⟨S4x2x513x2048x1, .f32⟩
  | 46 => ⟨S_, .i32⟩
  | 47 => ⟨S_, .i32⟩
  | 48 => ⟨S_, .i32⟩
  | 49 => ⟨S_, .i32⟩
  | 50 => ⟨S4x2x513x2048, .f32⟩
  | 51 => ⟨S4x2x513x2048x1, .f32⟩
  | 52 => ⟨S_, .i32⟩
  | 53 => ⟨S_, .i32⟩
  | 54 => ⟨S_, .i32⟩
  | 55 => ⟨S_, .i32⟩
  | 56 => ⟨S4x2x513x2048, .f32⟩
  | 57 => ⟨S4x2x513x2048x1, .f32⟩
  | 58 => ⟨S_, .i32⟩
  | 59 => ⟨S_, .i32⟩
  | 60 => ⟨S_, .i32⟩
  | 61 => ⟨S_, .i32⟩
  | 62 => ⟨S4x2x513x2048, .f32⟩
  | 63 => ⟨S4x2x513x2048x1, .f32⟩
  | 64 => ⟨S_, .i32⟩
  | 65 => ⟨S_, .i32⟩
  | 66 => ⟨S_, .i32⟩
  | 67 => ⟨S_, .i32⟩
  | 68 => ⟨S4x2x513x2048, .f32⟩
  | 69 => ⟨S4x2x513x2048x1, .f32⟩
  | 70 => ⟨S_, .i32⟩
  | 71 => ⟨S_, .i32⟩
  | 72 => ⟨S_, .i32⟩
  | 73 => ⟨S_, .i32⟩
  | 74 => ⟨S4x2x513x2048, .f32⟩
  | 75 => ⟨S4x2x513x2048x1, .f32⟩
  | 76 => ⟨S_, .i32⟩
  | 77 => ⟨S_, .i32⟩
  | 78 => ⟨S_, .i32⟩
  | 79 => ⟨S_, .i32⟩
  | 80 => ⟨S4x2x513x2048, .f32⟩
  | 81 => ⟨S4x2x513x2048x1, .f32⟩
  | 82 => ⟨S_, .i32⟩
  | 83 => ⟨S_, .i32⟩
  | 84 => ⟨S_, .i32⟩
  | 85 => ⟨S_, .i32⟩
  | 86 => ⟨S4x2x513x2048, .f32⟩
  | 87 => ⟨S4x2x513x2048x1, .f32⟩
  | 88 => ⟨S4x2x513x2048x16, .f32⟩
  | 89 => ⟨S4x2x513x2048x17, .f32⟩
  | 90 => ⟨S4x2x513x2048x17, .f32⟩
  | 91 => ⟨S4x2x513x2048x1, .f32⟩
  | 92 => ⟨S4x2x513x2048, .f32⟩
  | 93 => ⟨S_, .f32⟩
  | 94 => ⟨S4x2x513x2048, .f32⟩
  | 95 => ⟨S4x2x513x2048, .f32⟩
  | 96 => ⟨S4x2x513x2048, .f32⟩
  | 97 => ⟨S_, .f32⟩
  | 98 => ⟨S4x2x513x2048, .f32⟩
  | 99 => ⟨S4x2x513x2048, .i1⟩
  | 100 => ⟨S_, .f32⟩
  | 101 => ⟨S4x2x513x2048, .f32⟩
  | 102 => ⟨S4x2x513x2048, .f32⟩
  | 103 => ⟨S4x2x513x2048, .f32⟩
  | 104 => ⟨S_, .f32⟩
  | 105 => ⟨S4x2x513x2048, .f32⟩
  | 106 => ⟨S4x2x513x2048, .f32⟩
  | 107 => ⟨S4x2x513x2048, .f32⟩
  | 108 => ⟨S_, .f32⟩
  | 109 => ⟨S4x2x513x2048, .f32⟩
  | 110 => ⟨S4x2x513x2048, .f32⟩
  | 111 => ⟨S4x2x513x2048, .f32⟩
  | 112 => ⟨S4x2x513x2048, .f32⟩
  | 113 => ⟨S_, .f32⟩
  | 114 => ⟨S4x2x513x2048, .f32⟩
  | 115 => ⟨S4x2x513x2048, .f32⟩
  | 116 => ⟨S4x2x513x2048, .f32⟩
  | 117 => ⟨S_, .f32⟩
  | 118 => ⟨S4x2x513x2048, .f32⟩
  | 119 => ⟨S4x2x513x2048, .i1⟩
  | 120 => ⟨S_, .f32⟩
  | 121 => ⟨S4x2x513x2048, .f32⟩
  | 122 => ⟨S4x2x513x2048, .f32⟩
  | 123 => ⟨S4x2x513x2048, .f32⟩
  | 124 => ⟨S_, .f32⟩
  | 125 => ⟨S4x2x513x2048, .f32⟩
  | 126 => ⟨S4x2x513x2048, .f32⟩
  | 127 => ⟨S4x2x513x2048, .f32⟩
  | _ => ⟨S4x2x513x2048, .f32⟩

abbrev hbmTy0_2 (i : Nat) : BufTy := match i % 128 with
  | 0 => ⟨S_, .f32⟩
  | 1 => ⟨S4x2x513x2048, .f32⟩
  | 2 => ⟨S4x2x513x2048, .f32⟩
  | 3 => ⟨S4x2x513x2048, .f32⟩
  | 4 => ⟨S4x2x513x2048, .f32⟩
  | 5 => ⟨S4x2x513x2048, .f32⟩
  | 6 => ⟨S4x2x513x2048, .f32⟩
  | _ => ⟨S4x2x513x2048, .f32⟩

abbrev hbmTy (i : Nat) : BufTy := match i / 128 with
  | 0 => hbmTy0_0 i
  | 1 => hbmTy0_1 i
  | 2 => hbmTy0_2 i
  | _ => ⟨S4x2x513x2048, .f32⟩

abbrev bufTy : (tb : Table) → Fin (tcTables nBuf tb) → BufTy
  | .hbm, ⟨i, _⟩ => hbmTy i
  | _, _ => ⟨S4x2x513x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_v1 : Ref sig .tc := ⟨.hbm, 8, rfl⟩
abbrev main_v2 : Ref sig .tc := ⟨.hbm, 9, rfl⟩
abbrev main_c_4 : Ref sig .tc := ⟨.hbm, 10, rfl⟩
abbrev main_c_5 : Ref sig .tc := ⟨.hbm, 11, rfl⟩
abbrev main_c_6 : Ref sig .tc := ⟨.hbm, 12, rfl⟩
abbrev main_c_7 : Ref sig .tc := ⟨.hbm, 13, rfl⟩
abbrev main_v3 : Ref sig .tc := ⟨.hbm, 14, rfl⟩
abbrev main_v4 : Ref sig .tc := ⟨.hbm, 15, rfl⟩
abbrev main_c_8 : Ref sig .tc := ⟨.hbm, 16, rfl⟩
abbrev main_c_9 : Ref sig .tc := ⟨.hbm, 17, rfl⟩
abbrev main_c_10 : Ref sig .tc := ⟨.hbm, 18, rfl⟩
abbrev main_c_11 : Ref sig .tc := ⟨.hbm, 19, rfl⟩
abbrev main_v5 : Ref sig .tc := ⟨.hbm, 20, rfl⟩
abbrev main_v6 : Ref sig .tc := ⟨.hbm, 21, rfl⟩
abbrev main_c_12 : Ref sig .tc := ⟨.hbm, 22, rfl⟩
abbrev main_c_13 : Ref sig .tc := ⟨.hbm, 23, rfl⟩
abbrev main_c_14 : Ref sig .tc := ⟨.hbm, 24, rfl⟩
abbrev main_c_15 : Ref sig .tc := ⟨.hbm, 25, rfl⟩
abbrev main_v7 : Ref sig .tc := ⟨.hbm, 26, rfl⟩
abbrev main_v8 : Ref sig .tc := ⟨.hbm, 27, rfl⟩
abbrev main_c_16 : Ref sig .tc := ⟨.hbm, 28, rfl⟩
abbrev main_c_17 : Ref sig .tc := ⟨.hbm, 29, rfl⟩
abbrev main_c_18 : Ref sig .tc := ⟨.hbm, 30, rfl⟩
abbrev main_c_19 : Ref sig .tc := ⟨.hbm, 31, rfl⟩
abbrev main_v9 : Ref sig .tc := ⟨.hbm, 32, rfl⟩
abbrev main_v10 : Ref sig .tc := ⟨.hbm, 33, rfl⟩
abbrev main_c_20 : Ref sig .tc := ⟨.hbm, 34, rfl⟩
abbrev main_c_21 : Ref sig .tc := ⟨.hbm, 35, rfl⟩
abbrev main_c_22 : Ref sig .tc := ⟨.hbm, 36, rfl⟩
abbrev main_c_23 : Ref sig .tc := ⟨.hbm, 37, rfl⟩
abbrev main_v11 : Ref sig .tc := ⟨.hbm, 38, rfl⟩
abbrev main_v12 : Ref sig .tc := ⟨.hbm, 39, rfl⟩
abbrev main_c_24 : Ref sig .tc := ⟨.hbm, 40, rfl⟩
abbrev main_c_25 : Ref sig .tc := ⟨.hbm, 41, rfl⟩
abbrev main_c_26 : Ref sig .tc := ⟨.hbm, 42, rfl⟩
abbrev main_c_27 : Ref sig .tc := ⟨.hbm, 43, rfl⟩
abbrev main_v13 : Ref sig .tc := ⟨.hbm, 44, rfl⟩
abbrev main_v14 : Ref sig .tc := ⟨.hbm, 45, rfl⟩
abbrev main_c_28 : Ref sig .tc := ⟨.hbm, 46, rfl⟩
abbrev main_c_29 : Ref sig .tc := ⟨.hbm, 47, rfl⟩
abbrev main_c_30 : Ref sig .tc := ⟨.hbm, 48, rfl⟩
abbrev main_c_31 : Ref sig .tc := ⟨.hbm, 49, rfl⟩
abbrev main_v15 : Ref sig .tc := ⟨.hbm, 50, rfl⟩
abbrev main_v16 : Ref sig .tc := ⟨.hbm, 51, rfl⟩
abbrev main_c_32 : Ref sig .tc := ⟨.hbm, 52, rfl⟩
abbrev main_c_33 : Ref sig .tc := ⟨.hbm, 53, rfl⟩
abbrev main_c_34 : Ref sig .tc := ⟨.hbm, 54, rfl⟩
abbrev main_c_35 : Ref sig .tc := ⟨.hbm, 55, rfl⟩
abbrev main_v17 : Ref sig .tc := ⟨.hbm, 56, rfl⟩
abbrev main_v18 : Ref sig .tc := ⟨.hbm, 57, rfl⟩
abbrev main_c_36 : Ref sig .tc := ⟨.hbm, 58, rfl⟩
abbrev main_c_37 : Ref sig .tc := ⟨.hbm, 59, rfl⟩
abbrev main_c_38 : Ref sig .tc := ⟨.hbm, 60, rfl⟩
abbrev main_c_39 : Ref sig .tc := ⟨.hbm, 61, rfl⟩
abbrev main_v19 : Ref sig .tc := ⟨.hbm, 62, rfl⟩
abbrev main_v20 : Ref sig .tc := ⟨.hbm, 63, rfl⟩
abbrev main_c_40 : Ref sig .tc := ⟨.hbm, 64, rfl⟩
abbrev main_c_41 : Ref sig .tc := ⟨.hbm, 65, rfl⟩
abbrev main_c_42 : Ref sig .tc := ⟨.hbm, 66, rfl⟩
abbrev main_c_43 : Ref sig .tc := ⟨.hbm, 67, rfl⟩
abbrev main_v21 : Ref sig .tc := ⟨.hbm, 68, rfl⟩
abbrev main_v22 : Ref sig .tc := ⟨.hbm, 69, rfl⟩
abbrev main_c_44 : Ref sig .tc := ⟨.hbm, 70, rfl⟩
abbrev main_c_45 : Ref sig .tc := ⟨.hbm, 71, rfl⟩
abbrev main_c_46 : Ref sig .tc := ⟨.hbm, 72, rfl⟩
abbrev main_c_47 : Ref sig .tc := ⟨.hbm, 73, rfl⟩
abbrev main_v23 : Ref sig .tc := ⟨.hbm, 74, rfl⟩
abbrev main_v24 : Ref sig .tc := ⟨.hbm, 75, rfl⟩
abbrev main_c_48 : Ref sig .tc := ⟨.hbm, 76, rfl⟩
abbrev main_c_49 : Ref sig .tc := ⟨.hbm, 77, rfl⟩
abbrev main_c_50 : Ref sig .tc := ⟨.hbm, 78, rfl⟩
abbrev main_c_51 : Ref sig .tc := ⟨.hbm, 79, rfl⟩
abbrev main_v25 : Ref sig .tc := ⟨.hbm, 80, rfl⟩
abbrev main_v26 : Ref sig .tc := ⟨.hbm, 81, rfl⟩
abbrev main_c_52 : Ref sig .tc := ⟨.hbm, 82, rfl⟩
abbrev main_c_53 : Ref sig .tc := ⟨.hbm, 83, rfl⟩
abbrev main_c_54 : Ref sig .tc := ⟨.hbm, 84, rfl⟩
abbrev main_c_55 : Ref sig .tc := ⟨.hbm, 85, rfl⟩
abbrev main_v27 : Ref sig .tc := ⟨.hbm, 86, rfl⟩
abbrev main_v28 : Ref sig .tc := ⟨.hbm, 87, rfl⟩
abbrev main_c_56 : Ref sig .tc := ⟨.hbm, 88, rfl⟩
abbrev main_c_57 : Ref sig .tc := ⟨.hbm, 89, rfl⟩
abbrev main_c_58 : Ref sig .tc := ⟨.hbm, 90, rfl⟩
abbrev main_c_59 : Ref sig .tc := ⟨.hbm, 91, rfl⟩
abbrev main_v29 : Ref sig .tc := ⟨.hbm, 92, rfl⟩
abbrev main_v30 : Ref sig .tc := ⟨.hbm, 93, rfl⟩
abbrev main_c_60 : Ref sig .tc := ⟨.hbm, 94, rfl⟩
abbrev main_c_61 : Ref sig .tc := ⟨.hbm, 95, rfl⟩
abbrev main_c_62 : Ref sig .tc := ⟨.hbm, 96, rfl⟩
abbrev main_c_63 : Ref sig .tc := ⟨.hbm, 97, rfl⟩
abbrev main_v31 : Ref sig .tc := ⟨.hbm, 98, rfl⟩
abbrev main_v32 : Ref sig .tc := ⟨.hbm, 99, rfl⟩
abbrev main_c_64 : Ref sig .tc := ⟨.hbm, 100, rfl⟩
abbrev main_c_65 : Ref sig .tc := ⟨.hbm, 101, rfl⟩
abbrev main_c_66 : Ref sig .tc := ⟨.hbm, 102, rfl⟩
abbrev main_c_67 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_c_68 : Ref sig .tc := ⟨.hbm, 111, rfl⟩
abbrev main_call2_v0 : Ref sig .tc := ⟨.hbm, 112, rfl⟩
abbrev main_v40 : Ref sig .tc := ⟨.hbm, 113, rfl⟩
abbrev main_c_69 : Ref sig .tc := ⟨.hbm, 114, rfl⟩
abbrev main_c_70 : Ref sig .tc := ⟨.hbm, 115, rfl⟩
abbrev main_c_71 : Ref sig .tc := ⟨.hbm, 116, rfl⟩
abbrev main_c_72 : Ref sig .tc := ⟨.hbm, 117, rfl⟩
abbrev main_v41 : Ref sig .tc := ⟨.hbm, 118, rfl⟩
abbrev main_v42 : Ref sig .tc := ⟨.hbm, 119, rfl⟩
abbrev main_c_73 : Ref sig .tc := ⟨.hbm, 120, rfl⟩
abbrev main_c_74 : Ref sig .tc := ⟨.hbm, 121, rfl⟩
abbrev main_c_75 : Ref sig .tc := ⟨.hbm, 122, rfl⟩
abbrev main_c_76 : Ref sig .tc := ⟨.hbm, 123, rfl⟩
abbrev main_v43 : Ref sig .tc := ⟨.hbm, 124, rfl⟩
abbrev main_v44 : Ref sig .tc := ⟨.hbm, 125, rfl⟩
abbrev main_c_77 : Ref sig .tc := ⟨.hbm, 126, rfl⟩
abbrev main_c_78 : Ref sig .tc := ⟨.hbm, 127, rfl⟩
abbrev main_c_79 : Ref sig .tc := ⟨.hbm, 128, rfl⟩
abbrev main_c_80 : Ref sig .tc := ⟨.hbm, 129, rfl⟩
abbrev main_v45 : Ref sig .tc := ⟨.hbm, 130, rfl⟩
abbrev main_v46 : Ref sig .tc := ⟨.hbm, 131, rfl⟩
abbrev main_c_81 : Ref sig .tc := ⟨.hbm, 132, rfl⟩
abbrev main_c_82 : Ref sig .tc := ⟨.hbm, 133, rfl⟩
abbrev main_c_83 : Ref sig .tc := ⟨.hbm, 134, rfl⟩
abbrev main_c_84 : Ref sig .tc := ⟨.hbm, 135, rfl⟩
abbrev main_v47 : Ref sig .tc := ⟨.hbm, 136, rfl⟩
abbrev main_v48 : Ref sig .tc := ⟨.hbm, 137, rfl⟩
abbrev main_c_85 : Ref sig .tc := ⟨.hbm, 138, rfl⟩
abbrev main_c_86 : Ref sig .tc := ⟨.hbm, 139, rfl⟩
abbrev main_c_87 : Ref sig .tc := ⟨.hbm, 140, rfl⟩
abbrev main_c_88 : Ref sig .tc := ⟨.hbm, 141, rfl⟩
abbrev main_v49 : Ref sig .tc := ⟨.hbm, 142, rfl⟩
abbrev main_v50 : Ref sig .tc := ⟨.hbm, 143, rfl⟩
abbrev main_c_89 : Ref sig .tc := ⟨.hbm, 144, rfl⟩
abbrev main_c_90 : Ref sig .tc := ⟨.hbm, 145, rfl⟩
abbrev main_c_91 : Ref sig .tc := ⟨.hbm, 146, rfl⟩
abbrev main_c_92 : Ref sig .tc := ⟨.hbm, 147, rfl⟩
abbrev main_v51 : Ref sig .tc := ⟨.hbm, 148, rfl⟩
abbrev main_v52 : Ref sig .tc := ⟨.hbm, 149, rfl⟩
abbrev main_c_93 : Ref sig .tc := ⟨.hbm, 150, rfl⟩
abbrev main_c_94 : Ref sig .tc := ⟨.hbm, 151, rfl⟩
abbrev main_c_95 : Ref sig .tc := ⟨.hbm, 152, rfl⟩
abbrev main_c_96 : Ref sig .tc := ⟨.hbm, 153, rfl⟩
abbrev main_v53 : Ref sig .tc := ⟨.hbm, 154, rfl⟩
abbrev main_v54 : Ref sig .tc := ⟨.hbm, 155, rfl⟩
abbrev main_c_97 : Ref sig .tc := ⟨.hbm, 156, rfl⟩
abbrev main_c_98 : Ref sig .tc := ⟨.hbm, 157, rfl⟩
abbrev main_c_99 : Ref sig .tc := ⟨.hbm, 158, rfl⟩
abbrev main_c_100 : Ref sig .tc := ⟨.hbm, 159, rfl⟩
abbrev main_v55 : Ref sig .tc := ⟨.hbm, 160, rfl⟩
abbrev main_v56 : Ref sig .tc := ⟨.hbm, 161, rfl⟩
abbrev main_c_101 : Ref sig .tc := ⟨.hbm, 162, rfl⟩
abbrev main_c_102 : Ref sig .tc := ⟨.hbm, 163, rfl⟩
abbrev main_c_103 : Ref sig .tc := ⟨.hbm, 164, rfl⟩
abbrev main_c_104 : Ref sig .tc := ⟨.hbm, 165, rfl⟩
abbrev main_v57 : Ref sig .tc := ⟨.hbm, 166, rfl⟩
abbrev main_v58 : Ref sig .tc := ⟨.hbm, 167, rfl⟩
abbrev main_c_105 : Ref sig .tc := ⟨.hbm, 168, rfl⟩
abbrev main_c_106 : Ref sig .tc := ⟨.hbm, 169, rfl⟩
abbrev main_c_107 : Ref sig .tc := ⟨.hbm, 170, rfl⟩
abbrev main_c_108 : Ref sig .tc := ⟨.hbm, 171, rfl⟩
abbrev main_v59 : Ref sig .tc := ⟨.hbm, 172, rfl⟩
abbrev main_v60 : Ref sig .tc := ⟨.hbm, 173, rfl⟩
abbrev main_c_109 : Ref sig .tc := ⟨.hbm, 174, rfl⟩
abbrev main_c_110 : Ref sig .tc := ⟨.hbm, 175, rfl⟩
abbrev main_c_111 : Ref sig .tc := ⟨.hbm, 176, rfl⟩
abbrev main_c_112 : Ref sig .tc := ⟨.hbm, 177, rfl⟩
abbrev main_v61 : Ref sig .tc := ⟨.hbm, 178, rfl⟩
abbrev main_v62 : Ref sig .tc := ⟨.hbm, 179, rfl⟩
abbrev main_c_113 : Ref sig .tc := ⟨.hbm, 180, rfl⟩
abbrev main_c_114 : Ref sig .tc := ⟨.hbm, 181, rfl⟩
abbrev main_c_115 : Ref sig .tc := ⟨.hbm, 182, rfl⟩
abbrev main_c_116 : Ref sig .tc := ⟨.hbm, 183, rfl⟩
abbrev main_v63 : Ref sig .tc := ⟨.hbm, 184, rfl⟩
abbrev main_v64 : Ref sig .tc := ⟨.hbm, 185, rfl⟩
abbrev main_c_117 : Ref sig .tc := ⟨.hbm, 186, rfl⟩
abbrev main_c_118 : Ref sig .tc := ⟨.hbm, 187, rfl⟩
abbrev main_c_119 : Ref sig .tc := ⟨.hbm, 188, rfl⟩
abbrev main_c_120 : Ref sig .tc := ⟨.hbm, 189, rfl⟩
abbrev main_v65 : Ref sig .tc := ⟨.hbm, 190, rfl⟩
abbrev main_v66 : Ref sig .tc := ⟨.hbm, 191, rfl⟩
abbrev main_c_121 : Ref sig .tc := ⟨.hbm, 192, rfl⟩
abbrev main_c_122 : Ref sig .tc := ⟨.hbm, 193, rfl⟩
abbrev main_c_123 : Ref sig .tc := ⟨.hbm, 194, rfl⟩
abbrev main_c_124 : Ref sig .tc := ⟨.hbm, 195, rfl⟩
abbrev main_v67 : Ref sig .tc := ⟨.hbm, 196, rfl⟩
abbrev main_v68 : Ref sig .tc := ⟨.hbm, 197, rfl⟩
abbrev main_c_125 : Ref sig .tc := ⟨.hbm, 198, rfl⟩
abbrev main_c_126 : Ref sig .tc := ⟨.hbm, 199, rfl⟩
abbrev main_c_127 : Ref sig .tc := ⟨.hbm, 200, rfl⟩
abbrev main_c_128 : Ref sig .tc := ⟨.hbm, 201, rfl⟩
abbrev main_v69 : Ref sig .tc := ⟨.hbm, 202, rfl⟩
abbrev main_v70 : Ref sig .tc := ⟨.hbm, 203, rfl⟩
abbrev main_c_129 : Ref sig .tc := ⟨.hbm, 204, rfl⟩
abbrev main_c_130 : Ref sig .tc := ⟨.hbm, 205, rfl⟩
abbrev main_c_131 : Ref sig .tc := ⟨.hbm, 206, rfl⟩
abbrev main_c_132 : Ref sig .tc := ⟨.hbm, 207, rfl⟩
abbrev main_v71 : Ref sig .tc := ⟨.hbm, 208, rfl⟩
abbrev main_v72 : Ref sig .tc := ⟨.hbm, 209, rfl⟩
abbrev main_c_133 : Ref sig .tc := ⟨.hbm, 210, rfl⟩
abbrev main_c_134 : Ref sig .tc := ⟨.hbm, 211, rfl⟩
abbrev main_c_135 : Ref sig .tc := ⟨.hbm, 212, rfl⟩
abbrev main_c_136 : Ref sig .tc := ⟨.hbm, 213, rfl⟩
abbrev main_v73 : Ref sig .tc := ⟨.hbm, 214, rfl⟩
abbrev main_v74 : Ref sig .tc := ⟨.hbm, 215, rfl⟩
abbrev main_v75 : Ref sig .tc := ⟨.hbm, 216, rfl⟩
abbrev main_v76 : Ref sig .tc := ⟨.hbm, 217, rfl⟩
abbrev main_v77 : Ref sig .tc := ⟨.hbm, 218, rfl⟩
abbrev main_v78 : Ref sig .tc := ⟨.hbm, 219, rfl⟩
abbrev main_v79 : Ref sig .tc := ⟨.hbm, 220, rfl⟩
abbrev main_cst : Ref sig .tc := ⟨.hbm, 221, rfl⟩
abbrev main_v80 : Ref sig .tc := ⟨.hbm, 222, rfl⟩
abbrev main_v81 : Ref sig .tc := ⟨.hbm, 223, rfl⟩
abbrev main_v82 : Ref sig .tc := ⟨.hbm, 224, rfl⟩
abbrev main_cst_137 : Ref sig .tc := ⟨.hbm, 225, rfl⟩
abbrev main_v83 : Ref sig .tc := ⟨.hbm, 226, rfl⟩
abbrev main_v84 : Ref sig .tc := ⟨.hbm, 227, rfl⟩
abbrev main_cst_138 : Ref sig .tc := ⟨.hbm, 228, rfl⟩
abbrev main_call4_v0 : Ref sig .tc := ⟨.hbm, 229, rfl⟩
abbrev main_v85 : Ref sig .tc := ⟨.hbm, 230, rfl⟩
abbrev main_v86 : Ref sig .tc := ⟨.hbm, 231, rfl⟩
abbrev main_cst_139 : Ref sig .tc := ⟨.hbm, 232, rfl⟩
abbrev main_v87 : Ref sig .tc := ⟨.hbm, 233, rfl⟩
abbrev main_v88 : Ref sig .tc := ⟨.hbm, 234, rfl⟩
abbrev main_v89 : Ref sig .tc := ⟨.hbm, 235, rfl⟩
abbrev main_cst_140 : Ref sig .tc := ⟨.hbm, 236, rfl⟩
abbrev main_v90 : Ref sig .tc := ⟨.hbm, 237, rfl⟩
abbrev main_v91 : Ref sig .tc := ⟨.hbm, 238, rfl⟩
abbrev main_v92 : Ref sig .tc := ⟨.hbm, 239, rfl⟩
abbrev main_v93 : Ref sig .tc := ⟨.hbm, 240, rfl⟩
abbrev main_cst_141 : Ref sig .tc := ⟨.hbm, 241, rfl⟩
abbrev main_v94 : Ref sig .tc := ⟨.hbm, 242, rfl⟩
abbrev main_v95 : Ref sig .tc := ⟨.hbm, 243, rfl⟩
abbrev main_v96 : Ref sig .tc := ⟨.hbm, 244, rfl⟩
abbrev main_cst_142 : Ref sig .tc := ⟨.hbm, 245, rfl⟩
abbrev main_v97 : Ref sig .tc := ⟨.hbm, 246, rfl⟩
abbrev main_v98 : Ref sig .tc := ⟨.hbm, 247, rfl⟩
abbrev main_cst_143 : Ref sig .tc := ⟨.hbm, 248, rfl⟩
abbrev main_call5_v0 : Ref sig .tc := ⟨.hbm, 249, rfl⟩
abbrev main_v99 : Ref sig .tc := ⟨.hbm, 250, rfl⟩
abbrev main_v100 : Ref sig .tc := ⟨.hbm, 251, rfl⟩
abbrev main_cst_144 : Ref sig .tc := ⟨.hbm, 252, rfl⟩
abbrev main_v101 : Ref sig .tc := ⟨.hbm, 253, rfl⟩
abbrev main_v102 : Ref sig .tc := ⟨.hbm, 254, rfl⟩
abbrev main_v103 : Ref sig .tc := ⟨.hbm, 255, rfl⟩
abbrev main_cst_145 : Ref sig .tc := ⟨.hbm, 256, rfl⟩
abbrev main_v104 : Ref sig .tc := ⟨.hbm, 257, rfl⟩
abbrev main_v105 : Ref sig .tc := ⟨.hbm, 258, rfl⟩
abbrev main_v106 : Ref sig .tc := ⟨.hbm, 259, rfl⟩
abbrev main_v107 : Ref sig .tc := ⟨.hbm, 260, rfl⟩
abbrev main_v108 : Ref sig .tc := ⟨.hbm, 261, rfl⟩
abbrev main_v109 : Ref sig .tc := ⟨.hbm, 262, rfl⟩

abbrev nD : Nat := 1
abbrev τ : Topo := Topo.v7x

variable {F : FTy → Type} [FloatOps F]
-- ==== Proof.Median.lean ====
/- The sliding median of seventeen rows, as the merge network computes it and as a sorted list has it.

   A signal is a function on the naturals. `lo` and `hi` are the smaller and the larger of two signals, `ahead k`
   shifts one by `k`. `net s n` is what the network answers at place `n` for the window `s n … s (n + 16)`: sorted
   pairs merged to sorted fours, to sorted eights, then to the two middle places of a sorted sixteen, and last the
   seventeenth entry clamped between those two.

   All facts are read through one threshold `c` at a time: `ones c s n` is 1 where `c ≤ s n` and 0 elsewhere, and
   "place `i` of a sorted block of `k` is at least `c`" says "at least `k - i` of its entries are". Each merge step
   is then arithmetic on two counts. -/
module

public import Idealize.ShloMosaic.Lib.SortFacts
public import Mathlib.Order.Lattice
public import Mathlib.Order.Fin.Basic
public import Mathlib.Data.Fintype.Card
public import Mathlib.Algebra.BigOperators.Fin
public import Mathlib.Algebra.Order.BigOperators.Group.Finset
public import Mathlib.Tactic.IntervalCases

@[expose] public section

namespace Cert.Median

variable {α : Type} [LinearOrder α]

/-- The smaller of two signals, place by place. -/
def lo (f g : ℕ → α) : ℕ → α := fun n => min (f n) (g n)
/-- The larger of two signals, place by place. -/
def hi (f g : ℕ → α) : ℕ → α := fun n => max (f n) (g n)
/-- A signal read `k` places ahead. -/
def ahead (k : ℕ) (f : ℕ → α) : ℕ → α := fun n => f (n + k)

/-! ## Sorted pairs, fours and eights -/

/-- Place 0 of a sorted pair. -/
def a0 (s : ℕ → α) := lo s (ahead 1 s)
/-- Place 1 of a sorted pair. -/
def a1 (s : ℕ → α) := hi s (ahead 1 s)

/-- Place 0 of a sorted four. -/
def b0 (s : ℕ → α) := lo (a0 s) (ahead 2 (a0 s))
/-- Place 1 of a sorted four. -/
def b1 (s : ℕ → α) := lo (lo (a1 s) (ahead 2 (a1 s))) (hi (a0 s) (ahead 2 (a0 s)))
/-- Place 2 of a sorted four. -/
def b2 (s : ℕ → α) := hi (lo (a1 s) (ahead 2 (a1 s))) (hi (a0 s) (ahead 2 (a0 s)))
/-- Place 3 of a sorted four. -/
def b3 (s : ℕ → α) := hi (a1 s) (ahead 2 (a1 s))

/-- Inside the merge of two fours: the lower middle of the even places. -/
def u0 (s : ℕ → α) := lo (lo (b2 s) (ahead 4 (b2 s))) (hi (b0 s) (ahead 4 (b0 s)))
/-- Inside the merge of two fours: the upper middle of the even places. -/
def u1 (s : ℕ → α) := hi (lo (b2 s) (ahead 4 (b2 s))) (hi (b0 s) (ahead 4 (b0 s)))
/-- Inside the merge of two fours: the largest of the even places. -/
def u2 (s : ℕ → α) := hi (b2 s) (ahead 4 (b2 s))
/-- Inside the merge of two fours: the smallest of the odd places. -/
def w0 (s : ℕ → α) := lo (b1 s) (ahead 4 (b1 s))
/-- Inside the merge of two fours: the lower middle of the odd places. -/
def w1 (s : ℕ → α) := lo (lo (b3 s) (ahead 4 (b3 s))) (hi (b1 s) (ahead 4 (b1 s)))
/-- Inside the merge of two fours: the upper middle of the odd places. -/
def w2 (s : ℕ → α) := hi (lo (b3 s) (ahead 4 (b3 s))) (hi (b1 s) (ahead 4 (b1 s)))

/-- Place 0 of a sorted eight. -/
def c0 (s : ℕ → α) := lo (b0 s) (ahead 4 (b0 s))
/-- Place 1 of a sorted eight. -/
def c1 (s : ℕ → α) := lo (w0 s) (u0 s)
/-- Place 2 of a sorted eight. -/
def c2 (s : ℕ → α) := hi (w0 s) (u0 s)
/-- Place 3 of a sorted eight. -/
def c3 (s : ℕ → α) := lo (w1 s) (u1 s)
/-- Place 4 of a sorted eight. -/
def c4 (s : ℕ → α) := hi (w1 s) (u1 s)
/-- Place 5 of a sorted eight. -/
def c5 (s : ℕ → α) := lo (w2 s) (u2 s)
/-- Place 6 of a sorted eight. -/
def c6 (s : ℕ → α) := hi (w2 s) (u2 s)
/-- Place 7 of a sorted eight. -/
def c7 (s : ℕ → α) := hi (b3 s) (ahead 4 (b3 s))

/-! ## The two middle places of a sorted sixteen, and the median of seventeen -/

/-- The even places' contribution to the middle of a sorted sixteen. -/
def evens (s : ℕ → α) :=
  hi (lo (lo (c6 s) (ahead 8 (c6 s))) (hi (c2 s) (ahead 8 (c2 s))))
    (hi (lo (c4 s) (ahead 8 (c4 s))) (hi (c0 s) (ahead 8 (c0 s))))
/-- The odd places' contribution to the middle of a sorted sixteen. -/
def odds (s : ℕ → α) :=
  lo (lo (lo (c7 s) (ahead 8 (c7 s))) (hi (c3 s) (ahead 8 (c3 s))))
    (hi (lo (c5 s) (ahead 8 (c5 s))) (hi (c1 s) (ahead 8 (c1 s))))
/-- Place 7 of a sorted sixteen. -/
def d7 (s : ℕ → α) := lo (odds s) (evens s)
/-- Place 8 of a sorted sixteen. -/
def d8 (s : ℕ → α) := hi (odds s) (evens s)
/-- The network's answer: the seventeenth entry, clamped between the two middle places of the sixteen before it. -/
def net (s : ℕ → α) := lo (hi (ahead 16 s) (d7 s)) (d8 s)

/-! ## Counting the entries at or above a threshold -/

/-- 1 where the signal is at least `c`, 0 elsewhere. -/
def ones (c : α) (s : ℕ → α) (n : ℕ) : ℕ := if c ≤ s n then 1 else 0
/-- How many of two entries are at least `c`. -/
def two (c : α) (s : ℕ → α) (n : ℕ) : ℕ := ones c s n + ones c s (n + 1)
/-- How many of four entries are at least `c`. -/
def four (c : α) (s : ℕ → α) (n : ℕ) : ℕ := two c s n + two c s (n + 2)
/-- How many of eight entries are at least `c`. -/
def eight (c : α) (s : ℕ → α) (n : ℕ) : ℕ := four c s n + four c s (n + 4)
/-- How many of sixteen entries are at least `c`. -/
def sixteen (c : α) (s : ℕ → α) (n : ℕ) : ℕ := eight c s n + eight c s (n + 8)

variable (c : α) (s : ℕ → α) (n : ℕ)

theorem le_lo (f g : ℕ → α) : c ≤ lo f g n ↔ c ≤ f n ∧ c ≤ g n := le_min_iff
theorem le_hi (f g : ℕ → α) : c ≤ hi f g n ↔ c ≤ f n ∨ c ≤ g n := le_max_iff
theorem le_ahead (k : ℕ) (f : ℕ → α) : c ≤ ahead k f n ↔ c ≤ f (n + k) := Iff.rfl

theorem le_entry : c ≤ s n ↔ 1 ≤ ones c s n := by
  unfold ones; split <;> simp_all
theorem ones_le : ones c s n ≤ 1 := by unfold ones; split <;> omega
theorem two_le : two c s n ≤ 2 := by
  have := ones_le c s n; have := ones_le c s (n + 1); unfold two; omega
theorem four_le : four c s n ≤ 4 := by
  have := two_le c s n; have := two_le c s (n + 2); unfold four; omega
theorem eight_le : eight c s n ≤ 8 := by
  have := four_le c s n; have := four_le c s (n + 4); unfold eight; omega

theorem le_a0 : c ≤ a0 s n ↔ 2 ≤ two c s n := by
  have := ones_le c s n; have := ones_le c s (n + 1)
  simp only [a0, le_lo, le_ahead, le_entry c s, two]; omega
theorem le_a1 : c ≤ a1 s n ↔ 1 ≤ two c s n := by
  have := ones_le c s n; have := ones_le c s (n + 1)
  simp only [a1, le_hi, le_ahead, le_entry c s, two]; omega

theorem le_b0 : c ≤ b0 s n ↔ 4 ≤ four c s n := by
  have := two_le c s n; have := two_le c s (n + 2)
  simp only [b0, le_lo, le_ahead, le_a0, four]; omega
theorem le_b1 : c ≤ b1 s n ↔ 3 ≤ four c s n := by
  have := two_le c s n; have := two_le c s (n + 2)
  simp only [b1, le_lo, le_hi, le_ahead, le_a0, le_a1, four]; omega
theorem le_b2 : c ≤ b2 s n ↔ 2 ≤ four c s n := by
  have := two_le c s n; have := two_le c s (n + 2)
  simp only [b2, le_lo, le_hi, le_ahead, le_a0, le_a1, four]; omega
theorem le_b3 : c ≤ b3 s n ↔ 1 ≤ four c s n := by
  have := two_le c s n; have := two_le c s (n + 2)
  simp only [b3, le_hi, le_ahead, le_a1, four]; omega

theorem le_c0 : c ≤ c0 s n ↔ 8 ≤ eight c s n := by
  have := four_le c s n; have := four_le c s (n + 4)
  simp only [c0, le_lo, le_ahead, le_b0, eight]; omega
theorem le_c1 : c ≤ c1 s n ↔ 7 ≤ eight c s n := by
  have := four_le c s n; have := four_le c s (n + 4)
  simp only [c1, w0, u0, le_lo, le_hi, le_ahead, le_b0, le_b1, le_b2, eight]; omega
theorem le_c2 : c ≤ c2 s n ↔ 6 ≤ eight c s n := by
  have := four_le c s n; have := four_le c s (n + 4)
  simp only [c2, w0, u0, le_lo, le_hi, le_ahead, le_b0, le_b1, le_b2, eight]; omega
theorem le_c3 : c ≤ c3 s n ↔ 5 ≤ eight c s n := by
  have := four_le c s n; have := four_le c s (n + 4)
  simp only [c3, w1, u1, le_lo, le_hi, le_ahead, le_b0, le_b1, le_b2, le_b3, eight]; omega
theorem le_c4 : c ≤ c4 s n ↔ 4 ≤ eight c s n := by
  have := four_le c s n; have := four_le c s (n + 4)
  simp only [c4, w1, u1, le_lo, le_hi, le_ahead, le_b0, le_b1, le_b2, le_b3, eight]; omega
theorem le_c5 : c ≤ c5 s n ↔ 3 ≤ eight c s n := by
  have := four_le c s n; have := four_le c s (n + 4)
  simp only [c5, w2, u2, le_lo, le_hi, le_ahead, le_b1, le_b2, le_b3, eight]; omega
theorem le_c6 : c ≤ c6 s n ↔ 2 ≤ eight c s n := by
  have := four_le c s n; have := four_le c s (n + 4)
  simp only [c6, w2, u2, le_lo, le_hi, le_ahead, le_b1, le_b2, le_b3, eight]; omega
theorem le_c7 : c ≤ c7 s n ↔ 1 ≤ eight c s n := by
  have := four_le c s n; have := four_le c s (n + 4)
  simp only [c7, le_hi, le_ahead, le_b3, eight]; omega

theorem le_d7 : c ≤ d7 s n ↔ 9 ≤ sixteen c s n := by
  have h1 := eight_le c s n; have h2 := eight_le c s (n + 8)
  simp only [d7, odds, evens, le_lo, le_hi, le_ahead, le_c0, le_c1, le_c2, le_c3, le_c4, le_c5, le_c6, le_c7, sixteen]
  generalize eight c s n = x at *; generalize eight c s (n + 8) = y at *
  interval_cases x <;> interval_cases y <;> decide
theorem le_d8 : c ≤ d8 s n ↔ 8 ≤ sixteen c s n := by
  have h1 := eight_le c s n; have h2 := eight_le c s (n + 8)
  simp only [d8, odds, evens, le_lo, le_hi, le_ahead, le_c0, le_c1, le_c2, le_c3, le_c4, le_c5, le_c6, le_c7, sixteen]
  generalize eight c s n = x at *; generalize eight c s (n + 8) = y at *
  interval_cases x <;> interval_cases y <;> decide

/-- THE NETWORK, AT A THRESHOLD: its answer is at least `c` exactly when nine of the seventeen entries are. -/
theorem le_net : c ≤ net s n ↔ 9 ≤ sixteen c s n + ones c s (n + 16) := by
  have := ones_le c s (n + 16)
  simp only [net, le_lo, le_hi, le_ahead, le_d7, le_d8, le_entry c s]; omega

/-- The seventeen entries counted one by one. -/
theorem count_eq_sum : sixteen c s n + ones c s (n + 16) = ∑ k : Fin 17, ones c s (n + k.val) := by
  simp only [Fin.sum_univ_succ, Fin.sum_univ_zero, Fin.val_zero, Fin.val_succ]
  simp only [sixteen, eight, four, two, Nat.add_assoc, Nat.reduceAdd, Nat.add_zero]

/-! ## The sorted list's middle entry -/

/-- If `w ∘ σ` is non-decreasing for a bijection `σ` of seventeen places, its place 8 is at least `c` exactly when
    nine of the seventeen values are. -/
theorem le_sorted (w : Fin 17 → α) (σ : Fin 17 → Fin 17) (hσ : Function.Bijective σ)
    (hm : ∀ i j : Fin 17, i < j → w (σ i) ≤ w (σ j)) :
    c ≤ w (σ 8) ↔ 9 ≤ ∑ k : Fin 17, (if c ≤ w k then 1 else 0) := by
  have hs : ∑ k : Fin 17, (if c ≤ w k then 1 else 0) = ∑ k : Fin 17, (if c ≤ w (σ k) then 1 else 0) :=
    (Function.Bijective.sum_comp hσ (fun k => if c ≤ w k then 1 else 0)).symm
  rw [hs]
  constructor
  · intro h
    have hk : ∀ k : Fin 17, (if 8 ≤ k.val then 1 else 0) ≤ (if c ≤ w (σ k) then 1 else 0) := fun k => by
      by_cases h8 : 8 ≤ k.val
      · have : c ≤ w (σ k) := by
          rcases Nat.lt_or_eq_of_le h8 with h' | h'
          · exact h.trans (hm 8 k h')
          · have : k = 8 := Fin.ext h'.symm
            rw [this]; exact h
        rw [if_pos this]; split <;> omega
      · simp [h8]
    calc 9 = ∑ k : Fin 17, (if 8 ≤ k.val then 1 else 0) := by decide
      _ ≤ _ := Finset.sum_le_sum fun k _ => hk k
  · intro h
    by_contra hc
    have hk : ∀ k : Fin 17, (if c ≤ w (σ k) then 1 else 0) ≤ (if 9 ≤ k.val then 1 else 0) := fun k => by
      by_cases h8 : 9 ≤ k.val
      · rw [if_pos h8]; split <;> omega
      · have : ¬ c ≤ w (σ k) := fun hk => hc (by
          by_cases h' : k = 8
          · rw [← h']; exact hk
          · exact hk.trans (hm k 8 (by
              have : k.val ≠ 8 := fun e => h' (Fin.ext e)
              show k.val < 8; omega)))
        simp [this]
    have h9 : ∑ k : Fin 17, (if c ≤ w (σ k) then 1 else 0) ≤ ∑ k : Fin 17, (if 9 ≤ k.val then 1 else 0) :=
      Finset.sum_le_sum fun k _ => hk k
    have : ∑ k : Fin 17, (if 9 ≤ k.val then 1 else 0) = 8 := by decide
    omega

/-- THE MEDIAN: the network's answer at `n` is the middle entry of the window `s n … s (n + 16)` put in order. -/
theorem net_eq_sorted (σ : Fin 17 → Fin 17) (hσ : Function.Bijective σ)
    (hm : ∀ i j : Fin 17, i < j → s (n + (σ i).val) ≤ s (n + (σ j).val)) :
    net s n = s (n + (σ 8).val) :=
  eq_of_forall_le_iff fun c => by
    rw [le_net, count_eq_sum]
    exact (le_sorted c (fun k => s (n + k.val)) σ hσ hm).symm

/-- The network of a signal read `k` places ahead is the network read `k` places ahead. -/
theorem net_ahead (k : ℕ) : net (ahead k s) n = net s (n + k) :=
  eq_of_forall_le_iff fun c => by
    have e : ∀ j : ℕ, ones c (ahead k s) (n + j) = ones c s (n + k + j) := fun j => by
      simp only [ones, ahead, Nat.add_right_comm n j k]
    rw [le_net, le_net, count_eq_sum, count_eq_sum, Finset.sum_congr rfl fun j _ => e j.val]

end Cert.Median
-- ==== Proof.Spectrum.lean ====
/- The two medians of a spectrogram as plain functions.

   A spectrogram is indexed by batch, channel, frequency and time, of extents 4, 2, 513 and 2048. `entry x b c f t` is
   its value there, and 0 outside. `alongTime x b c f` is row `f` with eight zeros put in front (and zeros without end
   behind); `alongFreq x b c t` is column `t` the same way. `harm` and `perc` are the seventeen-wide sliding medians of
   these two, written as the merge network of Median.lean. -/
module

public import proofs.«01_k».proof.Proof.Median
public import Idealize.ShloMosaic.Lib.ValueIdxCore
public import Idealize.ShloMosaic.PureOps.Ideal

@[expose] public section

noncomputable section

namespace Cert.Spectrum

open Idealize.ShloMosaic Idealize.ShloMosaic.ValueIdx Cert.Median

/-- The spectrogram's shape. -/
abbrev Big : Shape := ⟨4, ![4, 2, 513, 2048]⟩

/-- The spectrogram at four coordinates, 0 outside its extents. -/
def entry (x : Big.Idx → EReal) (b c f t : ℕ) : EReal :=
  if h : b < 4 ∧ c < 2 ∧ f < 513 ∧ t < 2048 then x (ix4 ⟨b, h.1⟩ ⟨c, h.2.1⟩ ⟨f, h.2.2.1⟩ ⟨t, h.2.2.2⟩) else 0

/-- Row `f`, eight zeros in front. -/
def alongTime (x : Big.Idx → EReal) (b c f r : ℕ) : EReal := if 8 ≤ r then entry x b c f (r - 8) else 0

/-- Column `t`, eight zeros in front. -/
def alongFreq (x : Big.Idx → EReal) (b c t r : ℕ) : EReal := if 8 ≤ r then entry x b c (r - 8) t else 0

/-- The median along time. -/
def harm (x : Big.Idx → EReal) (b c f t : ℕ) : EReal := net (alongTime x b c f) t

/-- The median along frequency. -/
def perc (x : Big.Idx → EReal) (b c f t : ℕ) : EReal := net (alongFreq x b c t) f

variable (x : Big.Idx → EReal)

/-- An entry at an index's own coordinates. -/
theorem entry_of (b c f t : ℕ) (i : Big.Idx) (h0 : (i 0).val = b) (h1 : (i 1).val = c) (h2 : (i 2).val = f)
    (h3 : (i 3).val = t) : entry x b c f t = x i := by
  subst h0 h1 h2 h3
  have h : (i 0).val < 4 ∧ (i 1).val < 2 ∧ (i 2).val < 513 ∧ (i 3).val < 2048 :=
    ⟨(i 0).isLt, (i 1).isLt, (i 2).isLt, (i 3).isLt⟩
  rw [entry, dif_pos h]
  exact congrArg x (eq_ix4 i).symm

/-- Past the last time there is nothing. -/
theorem entry_late (b c f t : ℕ) (h : 2048 ≤ t) : entry x b c f t = 0 := by
  rw [entry, dif_neg (fun h' => by omega)]

/-- Past the last frequency there is nothing. -/
theorem entry_high (b c f t : ℕ) (h : 513 ≤ f) : entry x b c f t = 0 := by
  rw [entry, dif_neg (fun h' => by omega)]

end Cert.Spectrum

end
-- ==== Proof.RefWindows.lean ====
/- The reference's two stacks of windows, read at an index.

   The reference pads the spectrogram by eight zeros on both sides of one axis, cuts seventeen windows that start at
   0, 1, … 16 there, and stacks them on a new last axis. So the stack along time holds `alongTime x b c f (t + k)` at
   `(b, c, f, t, k)`, and the stack along frequency holds `alongFreq x b c t (f + k)`. -/
module

public import proofs.«01_k».proof.Proof.Spectrum
public import proofs.«01_k».proof.Proof.Gen.ReferenceIdeal.Read
public import Idealize.ShloMosaic.Lib.KernelVsHost
public import Idealize.ShloMosaic.Lib.Pointwise.ShapeOpsCore

@[expose] public section

noncomputable section

namespace Cert.RefWindows

open Idealize.ShloMosaic Idealize.ShloMosaic.ValueIdx Idealize.ShloMosaic.StableHlo
open Cert.ReferenceIdeal Cert.ReferenceIdeal.Gen Cert.ReferenceIdeal.Read Cert.Spectrum

variable (x : Big.Idx → EReal)

/-- The padding value, an integer 0 made a float. -/
theorem zero_val (z : (⟨S_, .f32⟩ : BufTy).Contents (Elt Ideal)) (i : S_.Idx)
    (hz : z i = FloatOps.sitofp (F := Ideal) .f32 (0#32)) : z i = (0 : EReal) := by
  rw [hz]
  show (((0#32).toInt : ℝ) : EReal) = 0
  simp

/-- Padded along time. -/
theorem padded_time (i : S4x2x513x2064.Idx) :
    val_main_v0 (F := Ideal) x i = alongTime x (i 0).val (i 1).val (i 2).val (i 3).val := by
  have h0 : (i 0).val < 4 := (i 0).isLt
  have h1 : (i 1).val < 2 := (i 1).isLt
  have h2 : (i 2).val < 513 := (i 2).isLt
  unfold val_main_v0 alongTime
  by_cases h8 : 8 ≤ (i 3).val
  · rw [if_pos h8]
    by_cases hT : (i 3).val - 8 < 2048
    · rw [entry_of x _ _ _ _ (ValueIdx.ix4 ⟨_, h0⟩ ⟨_, h1⟩ ⟨_, h2⟩ ⟨_, hT⟩) rfl rfl rfl rfl]
      refine pad_apply_of_inside _ _ _ x _ _ _ i _ (fun a => ?_)
      match a with
      | ⟨0, _⟩ => show (i 0).val = 0 + (i 0).val * (0 + 1); omega
      | ⟨1, _⟩ => show (i 1).val = 0 + (i 1).val * (0 + 1); omega
      | ⟨2, _⟩ => show (i 2).val = 0 + (i 2).val * (0 + 1); omega
      | ⟨3, _⟩ => show (i 3).val = 8 + ((i 3).val - 8) * (0 + 1); omega
    · rw [entry_late x _ _ _ _ (by omega)]
      refine (pad_apply_of_not_inside _ _ _ x _ _ _ i 3 ?_).trans (zero_val _ _ rfl)
      show ¬(8 ≤ (i 3).val ∧ ((i 3).val - 8) % (0 + 1) = 0 ∧ ((i 3).val - 8) / (0 + 1) < 2048)
      omega
  · rw [if_neg h8]
    refine (pad_apply_of_not_inside _ _ _ x _ _ _ i 3 ?_).trans (zero_val _ _ rfl)
    show ¬(8 ≤ (i 3).val ∧ ((i 3).val - 8) % (0 + 1) = 0 ∧ ((i 3).val - 8) / (0 + 1) < 2048)
    omega

/-- Padded along frequency. -/
theorem padded_freq (i : S4x2x529x2048.Idx) :
    val_main_v40 (F := Ideal) x i = alongFreq x (i 0).val (i 1).val (i 3).val (i 2).val := by
  have h0 : (i 0).val < 4 := (i 0).isLt
  have h1 : (i 1).val < 2 := (i 1).isLt
  have h3 : (i 3).val < 2048 := (i 3).isLt
  unfold val_main_v40 alongFreq
  by_cases h8 : 8 ≤ (i 2).val
  · rw [if_pos h8]
    by_cases hF : (i 2).val - 8 < 513
    · rw [entry_of x _ _ _ _ (ValueIdx.ix4 ⟨_, h0⟩ ⟨_, h1⟩ ⟨_, hF⟩ ⟨_, h3⟩) rfl rfl rfl rfl]
      refine pad_apply_of_inside _ _ _ x _ _ _ i _ (fun a => ?_)
      match a with
      | ⟨0, _⟩ => show (i 0).val = 0 + (i 0).val * (0 + 1); omega
      | ⟨1, _⟩ => show (i 1).val = 0 + (i 1).val * (0 + 1); omega
      | ⟨2, _⟩ => show (i 2).val = 8 + ((i 2).val - 8) * (0 + 1); omega
      | ⟨3, _⟩ => show (i 3).val = 0 + (i 3).val * (0 + 1); omega
    · rw [entry_high x _ _ _ _ (by omega)]
      refine (pad_apply_of_not_inside _ _ _ x _ _ _ i 2 ?_).trans (zero_val _ _ rfl)
      show ¬(8 ≤ (i 2).val ∧ ((i 2).val - 8) % (0 + 1) = 0 ∧ ((i 2).val - 8) / (0 + 1) < 513)
      omega
  · rw [if_neg h8]
    refine (pad_apply_of_not_inside _ _ _ x _ _ _ i 2 ?_).trans (zero_val _ _ rfl)
    show ¬(8 ≤ (i 2).val ∧ ((i 2).val - 8) % (0 + 1) = 0 ∧ ((i 2).val - 8) / (0 + 1) < 513)
    omega

/-- One start of a window: a scalar holding `n`. -/
abbrev word (n : ℕ) : (⟨S_, .i32⟩ : BufTy).Contents (Elt Ideal) := constantI S_ 32 (BitVec.ofNat 32 n)

/-- The window along time that starts at `k`, as the reference cuts it. -/
def windowTime (k : ℕ) : S4x2x513x2048x1.Idx → EReal :=
  broadcastInDim S4x2x513x2048x1 ![0, 1, 2, 3] bcast_S4x2x513x2048_S4x2x513x2048x1_0_1_2_3
    (Host.dynamicSlice S4x2x513x2048 (val_main_v0 (F := Ideal) x)
      (fun a => ((![word 0, word 0, word 0, word k] : Fin 4 → (⟨S_, .i32⟩ : BufTy).Contents (Elt Ideal)) a
        (Shape.Idx.first h_S_)).toInt) sliceFits_S4x2x513x2064_S4x2x513x2048)

/-- The window along frequency that starts at `k`, as the reference cuts it. -/
def windowFreq (k : ℕ) : S4x2x513x2048x1.Idx → EReal :=
  broadcastInDim S4x2x513x2048x1 ![0, 1, 2, 3] bcast_S4x2x513x2048_S4x2x513x2048x1_0_1_2_3
    (Host.dynamicSlice S4x2x513x2048 (val_main_v40 (F := Ideal) x)
      (fun a => ((![word 0, word 0, word k, word 0] : Fin 4 → (⟨S_, .i32⟩ : BufTy).Contents (Elt Ideal)) a
        (Shape.Idx.first h_S_)).toInt) sliceFits_S4x2x529x2048_S4x2x513x2048)

/-- A small word read as an integer. -/
theorem word_toInt (k : ℕ) (hk : k ≤ 16) : (BitVec.ofNat 32 k).toInt = (k : ℤ) := by
  interval_cases k <;> rfl

/-- A window along time at an index. -/
theorem windowTime_apply (k : ℕ) (hk : k ≤ 16) (i : S4x2x513x2048x1.Idx) :
    windowTime x k i = alongTime x (i 0).val (i 1).val (i 2).val ((i 3).val + k) := by
  unfold windowTime
  rw [broadcastInDim_apply _ bcast_S4x2x513x2048_S4x2x513x2048x1_0_1_2_3 _ i (idx_main_v2 i) (fun a => match a with
    | ⟨0, _⟩ => by show (i 0).val = if (4 : Nat) = 1 then 0 else (i 0).val; rw [if_neg (by decide)]
    | ⟨1, _⟩ => by show (i 1).val = if (2 : Nat) = 1 then 0 else (i 1).val; rw [if_neg (by decide)]
    | ⟨2, _⟩ => by show (i 2).val = if (513 : Nat) = 1 then 0 else (i 2).val; rw [if_neg (by decide)]
    | ⟨3, _⟩ => by show (i 3).val = if (2048 : Nat) = 1 then 0 else (i 3).val; rw [if_neg (by decide)]),
    Host.dynamicSlice_apply, Shape.Idx.norm_def, padded_time]
  have e0 := Host.clampedStart_of_le (s := S4x2x513x2064) (t := S4x2x513x2048) rfl
    (fun a => ((![word 0, word 0, word 0, word k] : Fin 4 → (⟨S_, .i32⟩ : BufTy).Contents (Elt Ideal)) a
        (Shape.Idx.first h_S_)).toInt) 0 0 rfl (by decide)
  have e1 := Host.clampedStart_of_le (s := S4x2x513x2064) (t := S4x2x513x2048) rfl
    (fun a => ((![word 0, word 0, word 0, word k] : Fin 4 → (⟨S_, .i32⟩ : BufTy).Contents (Elt Ideal)) a
        (Shape.Idx.first h_S_)).toInt) 1 0 rfl (by decide)
  have e2 := Host.clampedStart_of_le (s := S4x2x513x2064) (t := S4x2x513x2048) rfl
    (fun a => ((![word 0, word 0, word 0, word k] : Fin 4 → (⟨S_, .i32⟩ : BufTy).Contents (Elt Ideal)) a
        (Shape.Idx.first h_S_)).toInt) 2 0 rfl (by decide)
  have e3 := Host.clampedStart_of_le (s := S4x2x513x2064) (t := S4x2x513x2048) rfl
    (fun a => ((![word 0, word 0, word 0, word k] : Fin 4 → (⟨S_, .i32⟩ : BufTy).Contents (Elt Ideal)) a
        (Shape.Idx.first h_S_)).toInt) 3 k (word_toInt k hk) (by show k + 2048 ≤ 2064; omega)
  dsimp only
  rw [e0, e1, e2, e3, Nat.zero_add, Nat.zero_add, Nat.zero_add, Nat.add_comm k]
  rfl

/-- A window along frequency at an index. -/
theorem windowFreq_apply (k : ℕ) (hk : k ≤ 16) (i : S4x2x513x2048x1.Idx) :
    windowFreq x k i = alongFreq x (i 0).val (i 1).val (i 3).val ((i 2).val + k) := by
  unfold windowFreq
  rw [broadcastInDim_apply _ bcast_S4x2x513x2048_S4x2x513x2048x1_0_1_2_3 _ i (idx_main_v2 i) (fun a => match a with
    | ⟨0, _⟩ => by show (i 0).val = if (4 : Nat) = 1 then 0 else (i 0).val; rw [if_neg (by decide)]
    | ⟨1, _⟩ => by show (i 1).val = if (2 : Nat) = 1 then 0 else (i 1).val; rw [if_neg (by decide)]
    | ⟨2, _⟩ => by show (i 2).val = if (513 : Nat) = 1 then 0 else (i 2).val; rw [if_neg (by decide)]
    | ⟨3, _⟩ => by show (i 3).val = if (2048 : Nat) = 1 then 0 else (i 3).val; rw [if_neg (by decide)]),
    Host.dynamicSlice_apply, Shape.Idx.norm_def, padded_freq]
  have e0 := Host.clampedStart_of_le (s := S4x2x529x2048) (t := S4x2x513x2048) rfl
    (fun a => ((![word 0, word 0, word k, word 0] : Fin 4 → (⟨S_, .i32⟩ : BufTy).Contents (Elt Ideal)) a
        (Shape.Idx.first h_S_)).toInt) 0 0 rfl (by decide)
  have e1 := Host.clampedStart_of_le (s := S4x2x529x2048) (t := S4x2x513x2048) rfl
    (fun a => ((![word 0, word 0, word k, word 0] : Fin 4 → (⟨S_, .i32⟩ : BufTy).Contents (Elt Ideal)) a
        (Shape.Idx.first h_S_)).toInt) 1 0 rfl (by decide)
  have e2 := Host.clampedStart_of_le (s := S4x2x529x2048) (t := S4x2x513x2048) rfl
    (fun a => ((![word 0, word 0, word k, word 0] : Fin 4 → (⟨S_, .i32⟩ : BufTy).Contents (Elt Ideal)) a
        (Shape.Idx.first h_S_)).toInt) 2 k (word_toInt k hk) (by show k + 513 ≤ 529; omega)
  have e3 := Host.clampedStart_of_le (s := S4x2x529x2048) (t := S4x2x513x2048) rfl
    (fun a => ((![word 0, word 0, word k, word 0] : Fin 4 → (⟨S_, .i32⟩ : BufTy).Contents (Elt Ideal)) a
        (Shape.Idx.first h_S_)).toInt) 3 0 rfl (by decide)
  dsimp only
  rw [e0, e1, e2, e3, Nat.zero_add, Nat.zero_add, Nat.zero_add, Nat.add_comm k]
  rfl

/-- Sixteen windows of one family joined on the last axis. -/
theorem sixteen_windows (w : ℕ → S4x2x513x2048x1.Idx → EReal)
    (h : Shape.Concatenates ((List.ofFn fun n : Fin 16 =>
      (⟨S4x2x513x2048x1, w n.val⟩ : (s : Shape) × (s.Idx → EReal))).map (·.1)) S4x2x513x2048x16 4)
    (j : S4x2x513x2048x16.Idx) (i : S4x2x513x2048x1.Idx) (h0 : (i 0).val = (j 0).val) (h1 : (i 1).val = (j 1).val)
    (h2 : (i 2).val = (j 2).val) (h3 : (i 3).val = (j 3).val) :
    concatenate S4x2x513x2048x16 4 (List.ofFn fun n : Fin 16 =>
      (⟨S4x2x513x2048x1, w n.val⟩ : (s : Shape) × (s.Idx → EReal))) h j = w (j 4).val i :=
  concatenate_ofFn_unit_apply (N := 16) 4 (fun n => w n.val) h rfl rfl j (j 4) rfl i (fun b hb => by
    match b with
    | ⟨0, _⟩ => exact h0
    | ⟨1, _⟩ => exact h1
    | ⟨2, _⟩ => exact h2
    | ⟨3, _⟩ => exact h3
    | ⟨4, _⟩ => exact absurd rfl hb)

/-- Sixteen windows and one more, joined on the last axis, at an index. -/
theorem stack_apply (w : ℕ → S4x2x513x2048x1.Idx → EReal) (y : S4x2x513x2048x16.Idx → EReal)
    (hy : ∀ j i, (i 0).val = (j 0).val → (i 1).val = (j 1).val → (i 2).val = (j 2).val → (i 3).val = (j 3).val →
      y j = w (j 4).val i)
    (j : S4x2x513x2048x17.Idx) (i : S4x2x513x2048x1.Idx) (h0 : (i 0).val = (j 0).val) (h1 : (i 1).val = (j 1).val)
    (h2 : (i 2).val = (j 2).val) (h3 : (i 3).val = (j 3).val) :
    concatenate S4x2x513x2048x17 4 [⟨S4x2x513x2048x16, y⟩, ⟨S4x2x513x2048x1, w 16⟩]
      concatenates_S4x2x513x2048x16_S4x2x513x2048x1_S4x2x513x2048x17_d4 j = w (j 4).val i := by
  have hj : (j 4).val < 17 := (j 4).isLt
  by_cases h16 : (j 4).val < 16
  · rw [concatenate_pair_apply_left 4 y (w 16) _ j rfl (ValueIdx.ix5 (j 0) (j 1) (j 2) (j 3) ⟨(j 4).val, h16⟩) (fun b => by
      match b with
      | ⟨0, _⟩ => rfl
      | ⟨1, _⟩ => rfl
      | ⟨2, _⟩ => rfl
      | ⟨3, _⟩ => rfl
      | ⟨4, _⟩ => rfl)]
    exact hy _ i h0 h1 h2 h3
  · have e : (j 4).val = 16 := by omega
    have hi : (i 4).val < 1 := (i 4).isLt
    rw [e]
    exact concatenate_pair_apply_right 4 y (w 16) _ j rfl rfl i (fun b hb => by
      match b with
      | ⟨0, _⟩ => exact h0
      | ⟨1, _⟩ => exact h1
      | ⟨2, _⟩ => exact h2
      | ⟨3, _⟩ => exact h3
      | ⟨4, _⟩ => exact absurd rfl hb) (by show (i 4).val + 16 = (j 4).val; omega)

/-- The stack along time at an index. -/
theorem stacked_time (j : S4x2x513x2048x17.Idx) :
    val_main_v36 (F := Ideal) x j = alongTime x (j 0).val (j 1).val (j 2).val ((j 3).val + (j 4).val) := by
  have hj : (j 4).val < 17 := (j 4).isLt
  refine (stack_apply (windowTime x) (val_main_v35 (F := Ideal) x)
    (fun j i h0 h1 h2 h3 => sixteen_windows (windowTime x) _ j i h0 h1 h2 h3) j
    (ValueIdx.ix5 (j 0) (j 1) (j 2) (j 3) 0) rfl rfl rfl rfl).trans ?_
  exact windowTime_apply x _ (by omega) _

/-- The stack along frequency at an index. -/
theorem stacked_freq (j : S4x2x513x2048x17.Idx) :
    val_main_v76 (F := Ideal) x j = alongFreq x (j 0).val (j 1).val (j 3).val ((j 2).val + (j 4).val) := by
  have hj : (j 4).val < 17 := (j 4).isLt
  refine (stack_apply (windowFreq x) (val_main_v75 (F := Ideal) x)
    (fun j i h0 h1 h2 h3 => sixteen_windows (windowFreq x) _ j i h0 h1 h2 h3) j
    (ValueIdx.ix5 (j 0) (j 1) (j 2) (j 3) 0) rfl rfl rfl rfl).trans ?_
  exact windowFreq_apply x _ (by omega) _

end Cert.RefWindows

end
-- ==== Proof.Mask.lean ====
/- The soft mask, in both spellings.

   The kernel squares its two ratios by multiplying, the reference by a power of 2. The two squares differ in one place,
   a ratio of minus infinity, where the product is plus infinity and the power minus infinity. The mask itself does not
   see it: the sum it divides by is then infinite, and everything over an infinity is 0. -/
module

public import Idealize.ShloMosaic.PureOps.Ideal
public import Idealize.ShloMosaic.Lib.Pointwise.SelectCore

@[expose] public section

noncomputable section

namespace Cert.Mask

open Idealize.ShloMosaic

/-- The smallest normal number, below which a divisor is replaced by 1. -/
def tiny : EReal := FloatOps.ofBits (F := Ideal) .f32 0x00800000#32

/-- The common divisor of the two ratios: the larger of the two, or 1 if that is too small. -/
def divisor (h p : EReal) : EReal := if max h p < tiny then 1 else max h p

/-- One share of two: the square over the sum of the squares. -/
def share (q r : EReal) : EReal := Ideal.div (q * q) (q * q + r * r)

/-- What is kept of `s` where the wanted median is `h` and the other one is `p`. -/
def keep (s h p : EReal) : EReal := s * share (Ideal.div h (divisor h p)) (Ideal.div p (divisor h p))

/-- The divisor does not care which is which. -/
theorem divisor_comm (h p : EReal) : divisor h p = divisor p h := by rw [divisor, divisor, max_comm]

/-- Anything over plus infinity. -/
theorem div_top (x : EReal) : Ideal.div x ⊤ = 0 := by simp [Ideal.div]

/-- Anything over minus infinity. -/
theorem div_bot (x : EReal) : Ideal.div x ⊥ = 0 := by simp [Ideal.div]

/-- A square is at least 0. -/
theorem square_nonneg (x : EReal) : 0 ≤ x * x := by
  induction x with
  | bot => simp
  | top => simp
  | coe r => rw [← EReal.coe_mul]; exact_mod_cast mul_self_nonneg r

/-- A square is not minus infinity. -/
theorem square_ne_bot (x : EReal) : x * x ≠ ⊥ := fun h => by
  have := square_nonneg x
  rw [h] at this
  exact absurd this (by simp)

/-- The constant the power is taken to. -/
theorem two_val : FloatOps.ofBits (F := Ideal) .f32 0x40000000#32 = ((2 : ℝ) : EReal) := by
  simp [Ideal.ofBits, Ideal.ieee, -EReal.coe_mul]; norm_num

/-- The constant 1. -/
theorem one_val : FloatOps.ofBits (F := Ideal) .f32 0x3F800000#32 = (1 : EReal) := by
  simp [Ideal.ofBits, Ideal.ieee, -EReal.coe_mul]; norm_num

/-- The constant 0. -/
theorem zero_val : FloatOps.ofBits (F := Ideal) .f32 0x00000000#32 = (0 : EReal) := by
  simp [Ideal.ofBits, Ideal.ieee, -EReal.coe_mul]

/-- The power of 2 is the product off minus infinity. -/
theorem pow_two (x : EReal) (hx : x ≠ ⊥) : Ideal.pow x ((2 : ℝ) : EReal) = x * x := by
  induction x with
  | bot => exact absurd rfl hx
  | top =>
    show (if (0 : EReal) < ((2 : ℝ) : EReal) then (⊤ : EReal) else _) = _
    rw [if_pos (by exact_mod_cast (two_pos : (0 : ℝ) < 2)), EReal.top_mul_top]
  | coe r =>
    rw [← EReal.coe_mul]
    show ((Real.rpow r 2 : ℝ) : EReal) = _
    have : Real.rpow r 2 = r * r := by
      show r ^ (2 : ℝ) = r * r
      rw [Real.rpow_two, sq]
    rw [this]

/-- The power of 2 at minus infinity. -/
theorem pow_bot : Ideal.pow ⊥ ((2 : ℝ) : EReal) = ⊥ := rfl

/-- THE SHARE BY POWERS is the share by products. -/
theorem share_pow (q r : EReal) :
    Ideal.div (Ideal.pow q ((2 : ℝ) : EReal)) (Ideal.pow q ((2 : ℝ) : EReal) + Ideal.pow r ((2 : ℝ) : EReal))
      = share q r := by
  unfold share
  by_cases hq : q = ⊥
  · subst hq
    rw [pow_bot, EReal.bot_add, div_bot, EReal.bot_mul_bot, EReal.top_add_of_ne_bot (square_ne_bot r), div_top]
  · by_cases hr : r = ⊥
    · subst hr
      rw [pow_bot, EReal.add_bot, div_bot, EReal.bot_mul_bot, EReal.add_top_of_ne_bot (square_ne_bot q), div_top]
    · rw [pow_two q hq, pow_two r hr]

/-- The other share written with the sum the first one divides by, and the same divisor: the kernel's second result. -/
theorem keep_other (s h p : EReal) :
    s * Ideal.div (Ideal.div p (divisor h p) * Ideal.div p (divisor h p))
      (Ideal.div h (divisor h p) * Ideal.div h (divisor h p) + Ideal.div p (divisor h p) * Ideal.div p (divisor h p))
      = keep s p h := by
  rw [keep, share, divisor_comm p h, add_comm]

/-- The divisor as a comparison and a choice, the way both programs spell it. -/
theorem select_divisor (h p one : EReal) (h1 : one = 1) :
    Scalar.select (FloatOps.cmpf (F := Ideal) (φ := .f32) .olt (max h p) (FloatOps.ofBits (F := Ideal) .f32 0x00800000#32)) one (max h p)
      = divisor h p := by
  subst h1
  show Scalar.select (BitVec.ofBool (decide (max h p < tiny))) 1 (max h p) = _
  rw [Scalar.select_decide]; rfl

end Cert.Mask

end
-- ==== Proof.RefValue.lean ====
/- What the reference returns.

   Each stack of windows is sorted along its last axis and its middle entry taken. By Median.lean that entry is the
   merge network's answer, so the two medians are `harm` and `perc`. The masks on top of them are `keep`. -/
module

public import proofs.«01_k».proof.Proof.RefWindows
public import proofs.«01_k».proof.Proof.Mask

@[expose] public section

noncomputable section

namespace Cert.RefValue

open Idealize.ShloMosaic Idealize.ShloMosaic.StableHlo
open Cert.ReferenceIdeal Cert.ReferenceIdeal.Gen Cert.ReferenceIdeal.Read Cert.Spectrum Cert.Median Cert.Mask
open Cert.RefWindows (stacked_time stacked_freq)

/-- The sort's comparison is "less than". -/
theorem comparator_lt (l r : EReal) : (comparator_f32_d4 (F := Ideal) l r == 1#1) = decide (l < r) := by
  have h : ∀ v : EReal, Scalar.select (FloatOps.cmpf (F := Ideal) (φ := .f32) .une v v)
      (FloatOps.ofBits (F := Ideal) .f32 0x7FC00000#32)
      (Scalar.select (FloatOps.cmpf (F := Ideal) (φ := .f32) .oeq v (FloatOps.ofBits (F := Ideal) .f32 0x00000000#32))
        (FloatOps.ofBits (F := Ideal) .f32 0x00000000#32) v) = v := fun v => by
    show Scalar.select (BitVec.ofBool (decide (v ≠ v))) _ (Scalar.select (BitVec.ofBool (decide (v = _))) _ v) = v
    rw [Scalar.select_decide, Scalar.select_decide, if_neg (by simp)]
    split
    · rename_i e; exact e.symm
    · rfl
  unfold comparator_f32_d4
  dsimp only
  rw [h l, h r]
  show (BitVec.ofBool (decide (l < r)) == 1#1) = _
  by_cases hlt : l < r <;> simp [hlt]

/-- THE MIDDLE OF A SORTED STACK: where the stack holds `s n … s (n + 16)`, its sorted middle is the network's answer. -/
theorem sorted_middle (y : S4x2x513x2048x17.Idx → EReal) (s : ℕ → EReal) (n : ℕ) (i : S4x2x513x2048x17.Idx)
    (hi : i 4 = (8 : Fin 17)) (hy : ∀ k : Fin 17, y (i.along 4 k) = s (n + k.val)) :
    Host.sort S4x2x513x2048x17 4 (comparator_f32_d4 (F := Ideal)) y i = net s n := by
  have hR : (fun k k' : Fin 17 => comparator_f32_d4 (F := Ideal) (y (i.along 4 k)) (y (i.along 4 k')) == 1#1)
      = fun k k' => decide (s (n + k.val) < s (n + k'.val)) := by
    funext k k'
    rw [comparator_lt, hy, hy]
  have e : Host.sort S4x2x513x2048x17 4 (comparator_f32_d4 (F := Ideal)) y i
      = y (i.along 4 (sortedFrom (n := 17) (fun k k' : Fin 17 =>
          comparator_f32_d4 (F := Ideal) (y (i.along 4 k)) (y (i.along 4 k')) == 1#1) 8)) :=
    congrArg (fun p : Fin 17 => y (i.along 4 (sortedFrom (n := 17) (fun k k' : Fin 17 =>
          comparator_f32_d4 (F := Ideal) (y (i.along 4 k)) (y (i.along 4 k')) == 1#1) p))) hi
  refine e.trans ((congrArg (fun R : Fin 17 → Fin 17 → Bool => y (i.along 4 (sortedFrom (n := 17) R 8))) hR).trans
    ((hy _).trans ?_))
  refine (net_eq_sorted s n _ ⟨sortedFrom_injective _, sortedFrom_surjective _⟩ (fun a b hab => ?_)).symm
  have := sortedFrom_noInversion (fun k k' : Fin 17 => decide (s (n + k.val) < s (n + k'.val)))
    (fun k k' : Fin 17 => decide (s (n + k.val) < s (n + k'.val)))
    (fun a b h => by simp only [decide_eq_true_eq, decide_eq_false_iff_not, not_lt] at h ⊢; exact h.le)
    (fun a b h => h)
    (fun a b c h h' => by simp only [decide_eq_false_iff_not, not_lt] at h h' ⊢; exact h'.trans h) a b hab
  simpa only [decide_eq_false_iff_not, not_lt] using this

variable (x : Big.Idx → EReal)

/-- The reference's median along time. -/
theorem harm_apply (i : S4x2x513x2048.Idx) :
    val_main_v39 (F := Ideal) x i = harm x (i 0).val (i 1).val (i 2).val (i 3).val := by
  have h0 : (i 0).val < 4 := (i 0).isLt
  have h1 : (i 1).val < 2 := (i 1).isLt
  have h2 : (i 2).val < 513 := (i 2).isLt
  have h3 : (i 3).val < 2048 := (i 3).isLt
  have e : idx_main_v38 (idx_main_v39 i) = ValueIdx.ix5 (i 0) (i 1) (i 2) (i 3) (8 : Fin 17) := by
    funext a
    match a with
    | ⟨0, _⟩ => exact Fin.ext (by
        show ((((i 0).val * 2 + (i 1).val) * 513 + (i 2).val) * 2048 + (i 3).val) / 2101248 = (i 0).val; omega)
    | ⟨1, _⟩ => exact Fin.ext (by
        show ((((i 0).val * 2 + (i 1).val) * 513 + (i 2).val) * 2048 + (i 3).val) / 1050624 % 2 = (i 1).val; omega)
    | ⟨2, _⟩ => exact Fin.ext (by
        show ((((i 0).val * 2 + (i 1).val) * 513 + (i 2).val) * 2048 + (i 3).val) / 2048 % 513 = (i 2).val; omega)
    | ⟨3, _⟩ => exact Fin.ext (by
        show ((((i 0).val * 2 + (i 1).val) * 513 + (i 2).val) * 2048 + (i 3).val) / 1 % 2048 = (i 3).val; omega)
    | ⟨4, _⟩ => rfl
  rw [val_main_v39_apply, val_main_v38_apply, e]
  exact sorted_middle _ _ _ _ rfl fun k => stacked_time x _

/-- The reference's median along frequency. -/
theorem perc_apply (i : S4x2x513x2048.Idx) :
    val_main_v79 (F := Ideal) x i = perc x (i 0).val (i 1).val (i 2).val (i 3).val := by
  have h0 : (i 0).val < 4 := (i 0).isLt
  have h1 : (i 1).val < 2 := (i 1).isLt
  have h2 : (i 2).val < 513 := (i 2).isLt
  have h3 : (i 3).val < 2048 := (i 3).isLt
  have e : idx_main_v78 (idx_main_v79 i) = ValueIdx.ix5 (i 0) (i 1) (i 2) (i 3) (8 : Fin 17) := by
    funext a
    match a with
    | ⟨0, _⟩ => exact Fin.ext (by
        show ((((i 0).val * 2 + (i 1).val) * 513 + (i 2).val) * 2048 + (i 3).val) / 2101248 = (i 0).val; omega)
    | ⟨1, _⟩ => exact Fin.ext (by
        show ((((i 0).val * 2 + (i 1).val) * 513 + (i 2).val) * 2048 + (i 3).val) / 1050624 % 2 = (i 1).val; omega)
    | ⟨2, _⟩ => exact Fin.ext (by
        show ((((i 0).val * 2 + (i 1).val) * 513 + (i 2).val) * 2048 + (i 3).val) / 2048 % 513 = (i 2).val; omega)
    | ⟨3, _⟩ => exact Fin.ext (by
        show ((((i 0).val * 2 + (i 1).val) * 513 + (i 2).val) * 2048 + (i 3).val) / 1 % 2048 = (i 3).val; omega)
    | ⟨4, _⟩ => rfl
  rw [val_main_v79_apply, val_main_v78_apply, e]
  exact sorted_middle _ _ _ _ rfl fun k => stacked_freq x _

/-- The reference's mask, spelled with its constants and its powers, is `keep`. -/
theorem soft_mask (s h p one two : EReal) (h1 : one = 1) (h2 : two = ((2 : ℝ) : EReal)) (z : EReal)
    (hz : z = Scalar.select (FloatOps.cmpf (F := Ideal) (φ := .f32) .olt (max h (p * one))
      (FloatOps.ofBits (F := Ideal) .f32 0x00800000#32)) one (max h (p * one))) :
    s * Ideal.div (Ideal.pow (Ideal.div h z) two)
      (Ideal.pow (Ideal.div h z) two + Ideal.pow (Ideal.div (p * one) z) two) = keep s h p := by
  have hp : p * one = p := by rw [h1, mul_one]
  rw [hp, select_divisor h p one h1] at hz
  rw [hp, hz, h2, share_pow, keep]

/-- The reference's first result. -/
theorem first_apply (i : S4x2x513x2048.Idx) :
    val_main_v108 (F := Ideal) x i = keep (x i) (harm x (i 0).val (i 1).val (i 2).val (i 3).val)
      (perc x (i 0).val (i 1).val (i 2).val (i 3).val) := by
  rw [← harm_apply, ← perc_apply]
  rw [val_main_v108_apply, val_main_v93_apply, val_main_v92_apply, val_main_v91_apply, val_main_v90_apply,
    val_main_v89_apply, val_main_v88_apply, val_main_v87_apply, val_main_v86_apply, val_main_v85_apply,
    val_main_v84_apply, val_main_v83_apply, val_main_v82_apply, val_main_v81_apply, val_main_v80_apply,
    val_main_call4_v0_apply]
  generalize val_main_v39 (F := Ideal) x i = h, val_main_v79 (F := Ideal) x i = p
  exact soft_mask (x i) h p _ _ one_val two_val _ rfl

/-- The reference's second result. -/
theorem second_apply (i : S4x2x513x2048.Idx) :
    val_main_v109 (F := Ideal) x i = keep (x i) (perc x (i 0).val (i 1).val (i 2).val (i 3).val)
      (harm x (i 0).val (i 1).val (i 2).val (i 3).val) := by
  rw [← harm_apply, ← perc_apply]
  rw [val_main_v109_apply, val_main_v107_apply, val_main_v106_apply, val_main_v105_apply, val_main_v104_apply,
    val_main_v103_apply, val_main_v102_apply, val_main_v101_apply, val_main_v100_apply, val_main_v99_apply,
    val_main_v98_apply, val_main_v97_apply, val_main_v96_apply, val_main_v95_apply, val_main_v94_apply,
    val_main_call5_v0_apply]
  generalize val_main_v39 (F := Ideal) x i = h, val_main_v79 (F := Ideal) x i = p
  exact soft_mask (x i) p h _ _ one_val two_val _ rfl

end Cert.RefValue

end
-- ==== Proof.Columns.lean ====
/- Reading the kernel's two-axis values one column at a time.

   `Reads c v f` says that column `c` of the block `v` lists the signal `f` from its first row down. Smaller-of,
   larger-of and a slice that drops the first `k` rows act on signals as `lo`, `hi` and `ahead k`. -/
module

public import proofs.«01_k».proof.Proof.Median
public import Idealize.ShloMosaic.Lib.ValueIdxCore
public import Idealize.ShloMosaic.Lib.Pipeline.Value
public import Idealize.ShloMosaic.PureOps.Ideal

@[expose] public section

noncomputable section

namespace Cert.Columns

open Idealize.ShloMosaic Cert.Median

/-- Column `c` of `v` is the signal `f`, row by row. -/
def Reads {m n : ℕ} (c : ℕ) (v : (⟨2, ![m, n]⟩ : Shape).Idx → EReal) (f : ℕ → EReal) : Prop :=
  ∀ i, (i 1).val = c → v i = f (i 0).val

variable {m n k c : ℕ} {f g : ℕ → EReal}

/-- The smaller of two blocks. -/
theorem Reads.min {v w : FVec Ideal ⟨2, ![m, n]⟩ .bf16} (hv : Reads c v f) (hw : Reads c w g) :
    Reads c (minimumf v w) (lo f g) := fun i hi => congrArg₂ Min.min (hv i hi) (hw i hi)

/-- The larger of two blocks. -/
theorem Reads.max {v w : FVec Ideal ⟨2, ![m, n]⟩ .bf16} (hv : Reads c v f) (hw : Reads c w g) :
    Reads c (maximumf v w) (hi f g) := fun i hi => congrArg₂ Max.max (hv i hi) (hw i hi)

/-- A block without its first `k` rows. -/
theorem Reads.slice {m' : ℕ} (k : ℕ) {v : (⟨2, ![m, n]⟩ : Shape).Idx → EReal} (hv : Reads c v f)
    (h : Shape.Slices ⟨2, ![m, n]⟩ ![k, 0] ⟨2, ![m', n]⟩) :
    Reads c (extractStridedSlice ⟨2, ![m', n]⟩ ![k, 0] v h) (ahead k f) := fun i hi => by
  refine (hv _ ?_).trans (congrArg f ?_)
  · exact (Nat.zero_add _).trans hi
  · exact Nat.add_comm _ _

end Cert.Columns
end
-- ==== Proof.KernelNet.lean ====
/- The kernel's two medians, one column at a time.

   Both run the same merge network over the rows of a block: the first over 287 rows of the padded transposed
   spectrogram (rows are time), the second over 552 rows of the padded block itself (rows are frequency). Each value
   the kernel names is read as the stage of the network it computes. -/
module

public import proofs.«01_k».proof.Proof.Columns
public import proofs.«01_k».proof.Proof.Gen.KernelIdeal.Skeleton

@[expose] public section

noncomputable section

namespace Cert.KernelNet

open Idealize.ShloMosaic Cert.KernelIdeal Cert.KernelIdeal.Gen Cert.Median Cert.Columns

/-! ## Along time -/

section Time

variable {c : ℕ} {s : ℕ → EReal} {v : Vec Ideal S287x513 .bf16} (h : Reads c v s)

include h

theorem r22 : Reads c (k0_pay22 (F := Ideal) v) (a0 s) :=
  (h.slice 0 slices_S287x513_o0_0_S286x513).min (h.slice 1 slices_S287x513_o1_0_S286x513)
theorem r23 : Reads c (k0_pay23 (F := Ideal) v) (a1 s) :=
  (h.slice 0 slices_S287x513_o0_0_S286x513).max (h.slice 1 slices_S287x513_o1_0_S286x513)
theorem r28 : Reads c (k0_pay28 (F := Ideal) v) (b0 s) :=
  ((r22 h).slice 0 slices_S286x513_o0_0_S284x513).min ((r22 h).slice 2 slices_S286x513_o2_0_S284x513)
theorem r29 : Reads c (k0_pay29 (F := Ideal) v) (hi (a0 s) (ahead 2 (a0 s))) :=
  ((r22 h).slice 0 slices_S286x513_o0_0_S284x513).max ((r22 h).slice 2 slices_S286x513_o2_0_S284x513)
theorem r30 : Reads c (k0_pay30 (F := Ideal) v) (lo (a1 s) (ahead 2 (a1 s))) :=
  ((r23 h).slice 0 slices_S286x513_o0_0_S284x513).min ((r23 h).slice 2 slices_S286x513_o2_0_S284x513)
theorem r31 : Reads c (k0_pay31 (F := Ideal) v) (b3 s) :=
  ((r23 h).slice 0 slices_S286x513_o0_0_S284x513).max ((r23 h).slice 2 slices_S286x513_o2_0_S284x513)
theorem r32 : Reads c (k0_pay32 (F := Ideal) v) (b1 s) :=
  (r30 h).min (r29 h)
theorem r33 : Reads c (k0_pay33 (F := Ideal) v) (b2 s) :=
  (r30 h).max (r29 h)
theorem r42 : Reads c (k0_pay42 (F := Ideal) v) (c0 s) :=
  ((r28 h).slice 0 slices_S284x513_o0_0_S280x513).min ((r28 h).slice 4 slices_S284x513_o4_0_S280x513)
theorem r43 : Reads c (k0_pay43 (F := Ideal) v) (hi (b0 s) (ahead 4 (b0 s))) :=
  ((r28 h).slice 0 slices_S284x513_o0_0_S280x513).max ((r28 h).slice 4 slices_S284x513_o4_0_S280x513)
theorem r44 : Reads c (k0_pay44 (F := Ideal) v) (lo (b2 s) (ahead 4 (b2 s))) :=
  ((r33 h).slice 0 slices_S284x513_o0_0_S280x513).min ((r33 h).slice 4 slices_S284x513_o4_0_S280x513)
theorem r45 : Reads c (k0_pay45 (F := Ideal) v) (u2 s) :=
  ((r33 h).slice 0 slices_S284x513_o0_0_S280x513).max ((r33 h).slice 4 slices_S284x513_o4_0_S280x513)
theorem r46 : Reads c (k0_pay46 (F := Ideal) v) (u0 s) :=
  (r44 h).min (r43 h)
theorem r47 : Reads c (k0_pay47 (F := Ideal) v) (u1 s) :=
  (r44 h).max (r43 h)
theorem r48 : Reads c (k0_pay48 (F := Ideal) v) (w0 s) :=
  ((r32 h).slice 0 slices_S284x513_o0_0_S280x513).min ((r32 h).slice 4 slices_S284x513_o4_0_S280x513)
theorem r49 : Reads c (k0_pay49 (F := Ideal) v) (hi (b1 s) (ahead 4 (b1 s))) :=
  ((r32 h).slice 0 slices_S284x513_o0_0_S280x513).max ((r32 h).slice 4 slices_S284x513_o4_0_S280x513)
theorem r50 : Reads c (k0_pay50 (F := Ideal) v) (lo (b3 s) (ahead 4 (b3 s))) :=
  ((r31 h).slice 0 slices_S284x513_o0_0_S280x513).min ((r31 h).slice 4 slices_S284x513_o4_0_S280x513)
theorem r51 : Reads c (k0_pay51 (F := Ideal) v) (c7 s) :=
  ((r31 h).slice 0 slices_S284x513_o0_0_S280x513).max ((r31 h).slice 4 slices_S284x513_o4_0_S280x513)
theorem r52 : Reads c (k0_pay52 (F := Ideal) v) (w1 s) :=
  (r50 h).min (r49 h)
theorem r53 : Reads c (k0_pay53 (F := Ideal) v) (w2 s) :=
  (r50 h).max (r49 h)
theorem r54 : Reads c (k0_pay54 (F := Ideal) v) (c1 s) :=
  (r48 h).min (r46 h)
theorem r55 : Reads c (k0_pay55 (F := Ideal) v) (c2 s) :=
  (r48 h).max (r46 h)
theorem r56 : Reads c (k0_pay56 (F := Ideal) v) (c3 s) :=
  (r52 h).min (r47 h)
theorem r57 : Reads c (k0_pay57 (F := Ideal) v) (c4 s) :=
  (r52 h).max (r47 h)
theorem r58 : Reads c (k0_pay58 (F := Ideal) v) (c5 s) :=
  (r53 h).min (r45 h)
theorem r59 : Reads c (k0_pay59 (F := Ideal) v) (c6 s) :=
  (r53 h).max (r45 h)

end Time

/-- The kernel's median along time, as one function of the 287 rows it reads. -/
def harmBlock (v : Vec Ideal S287x513 .bf16) : FVec Ideal S513x256 .f32 :=
  k0_pay66 v (k0_pay42 v) (k0_pay51 v) (k0_pay54 v) (k0_pay55 v) (k0_pay56 v) (k0_pay57 v) (k0_pay58 v) (k0_pay59 v)
    (k0_pay60 v) (k0_pay61 v) (k0_pay62 v) (k0_pay63 v) (k0_pay64 v) (k0_pay65 v)

/-- It is the network's answer down the column: row `f`, column `t` of the result is the window of column `f` at
    row `t`. -/
theorem harmBlock_apply {s : ℕ → EReal} {v : Vec Ideal S287x513 .bf16} (i : S513x256.Idx)
    (h : Reads (i 0).val v s) : harmBlock v i = net s (i 1).val := by
  have e := ((((r59 h).slice 0 slices_S280x513_o0_0_S272x513).min
      ((r59 h).slice 8 slices_S280x513_o8_0_S272x513)).min (((r55 h).slice 0 slices_S280x513_o0_0_S272x513).max
      ((r55 h).slice 8 slices_S280x513_o8_0_S272x513))).max
    ((((r57 h).slice 0 slices_S280x513_o0_0_S272x513).min
      ((r57 h).slice 8 slices_S280x513_o8_0_S272x513)).max (((r42 h).slice 0 slices_S280x513_o0_0_S272x513).max
      ((r42 h).slice 8 slices_S280x513_o8_0_S272x513)))
  have o := ((((r51 h).slice 0 slices_S280x513_o0_0_S272x513).min
      ((r51 h).slice 8 slices_S280x513_o8_0_S272x513)).min (((r56 h).slice 0 slices_S280x513_o0_0_S272x513).max
      ((r56 h).slice 8 slices_S280x513_o8_0_S272x513))).min
    ((((r58 h).slice 0 slices_S280x513_o0_0_S272x513).min
      ((r58 h).slice 8 slices_S280x513_o8_0_S272x513)).max (((r54 h).slice 0 slices_S280x513_o0_0_S272x513).max
      ((r54 h).slice 8 slices_S280x513_o8_0_S272x513)))
  have key := ((h.slice 16 slices_S287x513_o16_0_S256x513).max
    ((o.min e).slice 0 slices_S272x513_o0_0_S256x513)).min ((o.max e).slice 0 slices_S272x513_o0_0_S256x513)
  exact (transpose_apply _ _ transposes_S256x513_p1_0_S513x256 i (ValueIdx.ix2 (i 1) (i 0)) fun a => by
    match a with
    | ⟨0, _⟩ => rfl
    | ⟨1, _⟩ => rfl).trans (key _ rfl)

/-! ## Along frequency -/

section Freq

variable {c : ℕ} {s : ℕ → EReal} {v : Vec Ideal S1x1x513x256 .f32} (h : Reads c (k0_pay68 (F := Ideal) v) s)

include h

theorem r71 : Reads c (k0_pay71 (F := Ideal) v) (a0 s) :=
  (h.slice 0 slices_S552x256_o0_0_S543x256).min (h.slice 1 slices_S552x256_o1_0_S543x256)
theorem r72 : Reads c (k0_pay72 (F := Ideal) v) (a1 s) :=
  (h.slice 0 slices_S552x256_o0_0_S543x256).max (h.slice 1 slices_S552x256_o1_0_S543x256)
theorem r77 : Reads c (k0_pay77 (F := Ideal) v) (b0 s) :=
  ((r71 h).slice 0 slices_S543x256_o0_0_S541x256).min ((r71 h).slice 2 slices_S543x256_o2_0_S541x256)
theorem r78 : Reads c (k0_pay78 (F := Ideal) v) (hi (a0 s) (ahead 2 (a0 s))) :=
  ((r71 h).slice 0 slices_S543x256_o0_0_S541x256).max ((r71 h).slice 2 slices_S543x256_o2_0_S541x256)
theorem r79 : Reads c (k0_pay79 (F := Ideal) v) (lo (a1 s) (ahead 2 (a1 s))) :=
  ((r72 h).slice 0 slices_S543x256_o0_0_S541x256).min ((r72 h).slice 2 slices_S543x256_o2_0_S541x256)
theorem r80 : Reads c (k0_pay80 (F := Ideal) v) (b3 s) :=
  ((r72 h).slice 0 slices_S543x256_o0_0_S541x256).max ((r72 h).slice 2 slices_S543x256_o2_0_S541x256)
theorem r81 : Reads c (k0_pay81 (F := Ideal) v) (b1 s) :=
  (r79 h).min (r78 h)
theorem r82 : Reads c (k0_pay82 (F := Ideal) v) (b2 s) :=
  (r79 h).max (r78 h)

end Freq

/-! The last stages take the four places of a sorted four, and the first of them without its last rows. -/
section Merge

variable {c : ℕ} {s : ℕ → EReal} {v0 v1 v2 v3 : FVec Ideal S541x256 .bf16} {v0' : FVec Ideal S537x256 .bf16}
  (h0 : Reads c v0 (b0 s)) (h1 : Reads c v1 (b1 s)) (h2 : Reads c v2 (b2 s)) (h3 : Reads c v3 (b3 s))
  (h0' : Reads c v0' (b0 s))

include h0 h0' in
theorem r91 : Reads c (k0_pay91 (F := Ideal) v0 v0') (hi (b0 s) (ahead 4 (b0 s))) :=
  h0'.max (h0.slice 4 slices_S541x256_o4_0_S537x256)
include h2 in
theorem r92 : Reads c (k0_pay92 (F := Ideal) v2) (lo (b2 s) (ahead 4 (b2 s))) :=
  (h2.slice 0 slices_S541x256_o0_0_S537x256).min (h2.slice 4 slices_S541x256_o4_0_S537x256)
include h2 in
theorem r93 : Reads c (k0_pay93 (F := Ideal) v2) (u2 s) :=
  (h2.slice 0 slices_S541x256_o0_0_S537x256).max (h2.slice 4 slices_S541x256_o4_0_S537x256)
include h0 h2 h0' in
theorem r94 : Reads c (k0_pay94 (F := Ideal) v0 v2 v0') (u0 s) :=
  (r92 h2).min (r91 h0 h0')
include h0 h2 h0' in
theorem r95 : Reads c (k0_pay95 (F := Ideal) v0 v2 v0') (u1 s) :=
  (r92 h2).max (r91 h0 h0')
include h1 in
theorem r96 : Reads c (k0_pay96 (F := Ideal) v1) (w0 s) :=
  (h1.slice 0 slices_S541x256_o0_0_S537x256).min (h1.slice 4 slices_S541x256_o4_0_S537x256)
include h1 in
theorem r97 : Reads c (k0_pay97 (F := Ideal) v1) (hi (b1 s) (ahead 4 (b1 s))) :=
  (h1.slice 0 slices_S541x256_o0_0_S537x256).max (h1.slice 4 slices_S541x256_o4_0_S537x256)
include h3 in
theorem r98 : Reads c (k0_pay98 (F := Ideal) v3) (lo (b3 s) (ahead 4 (b3 s))) :=
  (h3.slice 0 slices_S541x256_o0_0_S537x256).min (h3.slice 4 slices_S541x256_o4_0_S537x256)
include h3 h1 in
theorem r99 : Reads c (k0_pay99 (F := Ideal) v3 v1) (w1 s) :=
  (r98 h3).min (r97 h1)
include h3 h1 in
theorem r100 : Reads c (k0_pay100 (F := Ideal) v3 v1) (w2 s) :=
  (r98 h3).max (r97 h1)

include h0 h1 h2 h3 h0'
theorem r101 : Reads c (k0_pay101 (F := Ideal) v0 v3 v1 v2 v0') (evens s) := by
  have k0 := h0'.min (h0.slice 4 slices_S541x256_o4_0_S537x256)
  have k2 := (r96 h1).max (r94 h0 h2 h0')
  have k4 := (r99 h1 h3).max (r95 h0 h2 h0')
  have k6 := (r100 h1 h3).max (r93 h2)
  exact (((k6.slice 0 slices_S537x256_o0_0_S529x256).min
      (k6.slice 8 slices_S537x256_o8_0_S529x256)).min ((k2.slice 0 slices_S537x256_o0_0_S529x256).max
      (k2.slice 8 slices_S537x256_o8_0_S529x256))).max
    (((k4.slice 0 slices_S537x256_o0_0_S529x256).min
      (k4.slice 8 slices_S537x256_o8_0_S529x256)).max ((k0.slice 0 slices_S537x256_o0_0_S529x256).max
      (k0.slice 8 slices_S537x256_o8_0_S529x256)))
theorem r102 : Reads c (k0_pay102 (F := Ideal) v0 v3 v1 v2 v0') (odds s) := by
  have k1 := (r96 h1).min (r94 h0 h2 h0')
  have k3 := (r99 h1 h3).min (r95 h0 h2 h0')
  have k5 := (r100 h1 h3).min (r93 h2)
  have k7 := (h3.slice 0 slices_S541x256_o0_0_S537x256).max (h3.slice 4 slices_S541x256_o4_0_S537x256)
  exact (((k7.slice 0 slices_S537x256_o0_0_S529x256).min
      (k7.slice 8 slices_S537x256_o8_0_S529x256)).min ((k3.slice 0 slices_S537x256_o0_0_S529x256).max
      (k3.slice 8 slices_S537x256_o8_0_S529x256))).min
    (((k5.slice 0 slices_S537x256_o0_0_S529x256).min
      (k5.slice 8 slices_S537x256_o8_0_S529x256)).max ((k1.slice 0 slices_S537x256_o0_0_S529x256).max
      (k1.slice 8 slices_S537x256_o8_0_S529x256)))

end Merge

/-- The kernel's median along frequency, as one function of the block it reads. -/
def percBlock (v : Vec Ideal S1x1x513x256 .f32) : FVec Ideal S513x256 .f32 :=
  k0_pay1 (k0_pay103 (k0_pay77 v) (k0_pay80 v) (k0_pay81 v) (k0_pay82 v) (k0_pay83 v))
    (k0_pay104 (k0_pay77 v) (k0_pay80 v) (k0_pay81 v) (k0_pay82 v) (k0_pay83 v)) (k0_pay105 (k0_pay68 v))

/-- It is the network's answer down the column of the padded block. -/
theorem percBlock_apply {s : ℕ → EReal} {v : Vec Ideal S1x1x513x256 .f32} (i : S513x256.Idx)
    (h : Reads (i 1).val (k0_pay68 (F := Ideal) v) s) : percBlock v i = net s (i 0).val := by
  have e := r101 (r77 h) (r81 h) (r82 h) (r80 h) ((r77 h).slice 0 slices_S541x256_o0_0_S537x256)
  have o := r102 (r77 h) (r81 h) (r82 h) (r80 h) ((r77 h).slice 0 slices_S541x256_o0_0_S537x256)
  exact (((h.slice 16 slices_S552x256_o16_0_S513x256).max
    ((o.min e).slice 0 slices_S529x256_o0_0_S513x256)).min
      ((o.max e).slice 0 slices_S529x256_o0_0_S513x256)) i rfl

end Cert.KernelNet

end
-- ==== Proof.KernelMask.lean ====
/- What one step of the kernel stores, as functions of the rows and the block it reads.

   The stored values are the block times a mask; the mask is built from the two medians as `keep` says. The padded
   block is eight zero rows, the 513 rows of the block, and zero rows after them. -/
module

public import proofs.«01_k».proof.Proof.KernelNet
public import proofs.«01_k».proof.Proof.Spectrum
public import proofs.«01_k».proof.Proof.Mask

@[expose] public section

noncomputable section

namespace Cert.KernelMask

open Idealize.ShloMosaic Cert.KernelIdeal Cert.KernelIdeal.Gen Cert.Median Cert.Columns Cert.KernelNet Cert.Mask
open Cert.Spectrum

/-- Dropping or adding the two unit axes of a 513×256 block moves no entry. -/
theorem drop_units (v : S1x1x513x256.Idx → EReal) (j : S1x1x513x256.Idx) :
    shapeCast S513x256 v shapeCasts_S1x1x513x256_S513x256 (ValueIdx.ix2 (j 2) (j 3)) = v j :=
  shapeCast_apply v _ _ j (by
    have h0 : (j 0).val < 1 := (j 0).isLt
    have h1 : (j 1).val < 1 := (j 1).isLt
    rw [Shape.rowMajor_val_four, Shape.rowMajor_val_two]
    show (((j 0).val * 1 + (j 1).val) * 513 + (j 2).val) * 256 + (j 3).val = (j 2).val * 256 + (j 3).val
    omega)
theorem add_units (v : S513x256.Idx → EReal) (j : S1x1x513x256.Idx) :
    shapeCast S1x1x513x256 v shapeCasts_S513x256_S1x1x513x256 j = v (ValueIdx.ix2 (j 2) (j 3)) :=
  shapeCast_apply v _ j _ (by
    have h0 : (j 0).val < 1 := (j 0).isLt
    have h1 : (j 1).val < 1 := (j 1).isLt
    rw [Shape.rowMajor_val_four, Shape.rowMajor_val_two]
    show (j 2).val * 256 + (j 3).val = (((j 0).val * 1 + (j 1).val) * 513 + (j 2).val) * 256 + (j 3).val
    omega)

/-- The first stored block, from the rows `v6` of the padded transposed spectrogram and the block `v87`. -/
def firstBlock (v6 : Vec Ideal S287x513 .bf16) (v87 : Vec Ideal S1x1x513x256 .f32) : FVec Ideal S1x1x513x256 .f32 :=
  k0_pay6 (harmBlock v6) (k0_pay67 v87) (k0_pay103 (k0_pay77 v87) (k0_pay80 v87) (k0_pay81 v87) (k0_pay82 v87) (k0_pay83 v87))
    (k0_pay104 (k0_pay77 v87) (k0_pay80 v87) (k0_pay81 v87) (k0_pay82 v87) (k0_pay83 v87)) (k0_pay105 (k0_pay68 v87))
/-- The second stored block. -/
def secondBlock (v6 : Vec Ideal S287x513 .bf16) (v87 : Vec Ideal S1x1x513x256 .f32) : FVec Ideal S1x1x513x256 .f32 :=
  k0_pay7 (harmBlock v6) (k0_pay67 v87) (k0_pay103 (k0_pay77 v87) (k0_pay80 v87) (k0_pay81 v87) (k0_pay82 v87) (k0_pay83 v87))
    (k0_pay104 (k0_pay77 v87) (k0_pay80 v87) (k0_pay81 v87) (k0_pay82 v87) (k0_pay83 v87)) (k0_pay105 (k0_pay68 v87))

section

variable (v6 : Vec Ideal S287x513 .bf16) (v87 : Vec Ideal S1x1x513x256 .f32) (j : S1x1x513x256.Idx)

/-- The kernel's divisor at an entry. -/
theorem divisor_read (i : S513x256.Idx) :
    k0_pay2 (harmBlock v6) (k0_pay103 (k0_pay77 v87) (k0_pay80 v87) (k0_pay81 v87) (k0_pay82 v87) (k0_pay83 v87))
      (k0_pay104 (k0_pay77 v87) (k0_pay80 v87) (k0_pay81 v87) (k0_pay82 v87) (k0_pay83 v87)) (k0_pay105 (k0_pay68 v87)) i
      = divisor (harmBlock v6 i) (percBlock v87 i) :=
  select_divisor (harmBlock v6 i) (percBlock v87 i) _ one_val

theorem firstBlock_apply : firstBlock v6 v87 j = keep (v87 j) (harmBlock v6 (ValueIdx.ix2 (j 2) (j 3)))
    (percBlock v87 (ValueIdx.ix2 (j 2) (j 3))) := by
  unfold firstBlock k0_pay6
  refine (add_units _ j).trans ?_
  rw [keep, share, ← divisor_read, ← drop_units v87 j]
  rfl

theorem secondBlock_apply : secondBlock v6 v87 j = keep (v87 j) (percBlock v87 (ValueIdx.ix2 (j 2) (j 3)))
    (harmBlock v6 (ValueIdx.ix2 (j 2) (j 3))) := by
  unfold secondBlock k0_pay7
  refine (add_units _ j).trans ?_
  rw [← keep_other, ← divisor_read, ← drop_units v87 j]
  rfl

end

/-- Eight rows, 513 rows and 31 rows stacked, where the outer ones are zero: the entry at row `r` is the middle one's
    entry at row `r - 8`, and zero outside. -/
theorem stacked_apply (z : S8x256.Idx → EReal) (y : S513x256.Idx → EReal) (z' : S31x256.Idx → EReal)
    (hz : ∀ k, z k = 0) (hz' : ∀ k, z' k = 0) (g : ℕ → EReal) (i : S552x256.Idx)
    (hy : ∀ k : S513x256.Idx, (k 1).val = (i 1).val → y k = g (k 0).val) (hg : ∀ r, 513 ≤ r → g r = 0) :
    concatenate S552x256 0 [⟨S8x256, z⟩, ⟨S513x256, y⟩, ⟨S31x256, z'⟩] concatenates_S8x256_S513x256_S31x256_S552x256_d0 i
      = if 8 ≤ (i 0).val then g ((i 0).val - 8) else 0 := by
  have hlt : (i 0).val < 552 := (i 0).isLt
  have hb : ∀ b : Fin 2, b ≠ 0 → b = 1 := by decide
  split
  · by_cases h : (i 0).val < 521
    · refine (concatenate_apply_piece (t := S552x256) 0 [⟨S8x256, z⟩, ⟨S513x256, y⟩, ⟨S31x256, z'⟩]
        concatenates_S8x256_S513x256_S31x256_S552x256_d0 i 1 (by show 1 < 3; omega) S513x256 y rfl rfl 8 rfl
        (ValueIdx.ix2 (⟨(i 0).val - 8, by omega⟩ : Fin 513) (i 1)) (fun b h' => ?_) ?_).trans (hy _ rfl)
      · rw [hb b h']; rfl
      · show 8 + ((i 0).val - 8) = (i 0).val; omega
    · refine (concatenate_apply_piece (t := S552x256) 0 [⟨S8x256, z⟩, ⟨S513x256, y⟩, ⟨S31x256, z'⟩]
        concatenates_S8x256_S513x256_S31x256_S552x256_d0 i 2 (by show 2 < 3; omega) S31x256 z' rfl rfl 521 rfl
        (ValueIdx.ix2 (⟨(i 0).val - 521, by omega⟩ : Fin 31) (i 1)) (fun b h' => ?_) ?_).trans
          ((hz' _).trans (hg _ (by omega)).symm)
      · rw [hb b h']; rfl
      · show 521 + ((i 0).val - 521) = (i 0).val; omega
  · refine (concatenate_apply_piece (t := S552x256) 0 [⟨S8x256, z⟩, ⟨S513x256, y⟩, ⟨S31x256, z'⟩]
        concatenates_S8x256_S513x256_S31x256_S552x256_d0 i 0 (by show 0 < 3; omega) S8x256 z rfl rfl 0 rfl
        (ValueIdx.ix2 (⟨(i 0).val, by omega⟩ : Fin 8) (i 1)) (fun b h' => ?_) ?_).trans (hz _)
    · rw [hb b h']; rfl
    · show 0 + (i 0).val = (i 0).val; omega

/-- The sixteen-bit zero. -/
theorem short_zero : FloatOps.ofBits (F := Ideal) .bf16 0x0000#16 = (0 : EReal) := by
  simp [Ideal.ofBits, Ideal.ieee, -EReal.coe_mul]

/-- The padded block's column is the padded column of the spectrogram. -/
theorem padded_reads (x : Big.Idx → EReal) (b ch t : ℕ) (v87 : Vec Ideal S1x1x513x256 .f32) (c : ℕ)
    (hv : ∀ j, (j 3).val = c → v87 j = entry x b ch (j 2).val t) :
    Reads c (k0_pay68 (F := Ideal) v87) (alongFreq x b ch t) := fun i hi =>
  stacked_apply _ _ _ (fun _ => short_zero) (fun _ => short_zero) (fun f => entry x b ch f t) i
    (fun k hk => (drop_units v87 (ValueIdx.ix4 0 0 (k 0) (k 1))).symm.symm.trans (hv _ (hk.trans hi)))
    (fun r hr => entry_high x b ch r t hr)

end Cert.KernelMask

end
-- ==== Proof.Padded.lean ====
/- What the kernel keeps between steps: the padded, transposed spectrogram of one batch and channel.

   The first step of each block row writes it in ten pieces: eight rows of zeros, eight chunks of 256 columns of the
   spectrogram turned into rows, and 32 rows of zeros. Row `r`, column `f` of it is the padded row `f` of the
   spectrogram at place `r`. -/
module

public import proofs.«01_k».proof.Proof.KernelMask
public import proofs.«01_k».proof.Proof.Gen.KernelIdeal.Value
public import Idealize.ShloMosaic.Lib.Pipeline.ValueKit

@[expose] public section

noncomputable section

namespace Cert.Padded

open Idealize.ShloMosaic Idealize.ShloMosaic.TcCoe Idealize.SL.Sem
open Cert.KernelIdeal Cert.KernelIdeal.Gen Cert.Spectrum Cert.Columns Cert.KernelMask

variable (x : Big.Idx → EReal) (b ch : ℕ)

/-- The padded, transposed spectrogram. -/
def rows : S2088x513.Idx → EReal := fun i => alongTime x b ch (i 1).val (i 0).val

theorem rows_reads (f : ℕ) : Reads f (rows x b ch) (alongTime x b ch f) := fun i hi => by rw [rows, hi]

/-- `Holds x b ch x0`: the block `x0` is the spectrogram of batch `b`, channel `ch`. -/
def Holds (x0 : S1x1x513x2048.Idx → EReal) : Prop := ∀ j, x0 j = entry x b ch (j 2).val (j 3).val

section Pieces

variable {x b ch} {x0 : Vec Ideal S1x1x513x2048 .f32} (hx : Holds x b ch x0)

include hx in
/-- The block without its unit axes. -/
theorem flat_apply (i : S513x2048.Idx) : k0_pay8 x0 i = entry x b ch (i 0).val (i 1).val :=
  (shapeCast_apply x0 shapeCasts_S1x1x513x2048_S513x2048 i (ValueIdx.ix4 0 0 (i 0) (i 1)) (by
    rw [Shape.rowMajor_val_four, Shape.rowMajor_val_two]
    show ((0 * 1 + 0) * 513 + (i 0).val) * 2048 + (i 1).val = (i 0).val * 2048 + (i 1).val
    omega)).trans (hx _)

/-- 256 columns of the block from column `k`, turned into rows, are the padded rows from `8 + k`. -/
theorem chunk_apply (y : S513x2048.Idx → EReal) (hy : ∀ i, y i = entry x b ch (i 0).val (i 1).val) (k o : ℕ)
    (ho : o = 8 + k) (h : Shape.Slices S513x2048 ![0, k] S513x256) (inb) (j : S256x513.Idx) :
    shapeCast S256x513 (transpose S256x513 [1, 0] (extractStridedSlice S513x256 ![0, k] y h)
        transposes_S513x256_p1_0_S256x513) shapeCasts_S256x513_S256x513 j
      = rows x b ch ((Rect.unit (s := S2088x513) ![o, 0] S256x513.size inb).emb j) := by
  subst ho
  rw [shapeCast_self, transpose_apply _ _ transposes_S513x256_p1_0_S256x513 j (ValueIdx.ix2 (j 1) (j 0)) (fun a => by
    match a with
    | ⟨0, _⟩ => rfl
    | ⟨1, _⟩ => rfl)]
  show y _ = _
  rw [hy]
  show entry x b ch (0 + (j 1).val) (k + (j 0).val) = alongTime x b ch (0 + 1 * (j 1).val) (8 + k + 1 * (j 0).val)
  rw [alongTime, if_pos (by omega)]
  congr 1 <;> omega

/-- The zero rows at the top. -/
theorem top_apply (inb) (j : S8x513.Idx) :
    k0_pay9 (F := Ideal) j = rows x b ch ((Rect.unit (s := S2088x513) ![0, 0] S8x513.size inb).emb j) := by
  have h : (j 0).val < 8 := (j 0).isLt
  unfold k0_pay9
  rw [shapeCast_self]
  refine short_zero.trans ?_
  show 0 = alongTime x b ch _ (0 + 1 * (j 0).val)
  rw [alongTime, if_neg (by omega)]

/-- The zero rows at the bottom. -/
theorem bottom_apply (inb) (j : S32x513.Idx) :
    k0_pay10 (F := Ideal) j = rows x b ch ((Rect.unit (s := S2088x513) ![2056, 0] S32x513.size inb).emb j) := by
  unfold k0_pay10
  rw [shapeCast_self]
  refine short_zero.trans ?_
  show 0 = alongTime x b ch _ (2056 + 1 * (j 0).val)
  rw [alongTime, if_pos (by omega), entry_late _ _ _ _ _ (by omega)]

include hx in
/-- THE TEN PIECES, whatever they overwrite, are the padded, transposed spectrogram. -/
theorem pieces_apply (c : Dev nD) (arg2 : Memref sig .tc .vmem S1x1x513x2048 .f32) (harg2 : arg2.IsWhole) :
    ∀ p ∈ kernelRun0_A.sl.HS0_10 (F := Ideal) c arg2 harg2 x0, ∀ j : p.1.shape.Idx, p.2 j = rows x b ch (p.1.emb j) := by
  have hX : View.readAt (Elt Ideal) arg2.view (Rect.unit (s := S1x1x513x2048) ![0, 0, 0, 0] S1x1x513x2048.size
      inb_S1x1x513x2048_S1x1x513x2048_0_0_0_0).toLoadRect (harg2.unread x0) = x0 := by
    rw [View.readAt_eq_ld, harg2.read_unread, View.ld_unit_lit _ _ (by decide)]
  intro p hp
  unfold kernelRun0_A.sl.HS0_10 kernelRun0_A.sl.r kernelRun0_A.sl.r_1 at hp
  rw [hX] at hp
  have hy := flat_apply hx
  simp only [List.mem_cons, List.mem_nil_iff, or_false] at hp
  rcases hp with rfl | rfl | rfl | rfl | rfl | rfl | rfl | rfl | rfl | rfl
  · exact chunk_apply _ hy 1792 1800 rfl slices_S513x2048_o0_1792_S513x256 inb_S2088x513_S256x513_1800_0
  · exact chunk_apply _ hy 1536 1544 rfl slices_S513x2048_o0_1536_S513x256 inb_S2088x513_S256x513_1544_0
  · exact chunk_apply _ hy 1280 1288 rfl slices_S513x2048_o0_1280_S513x256 inb_S2088x513_S256x513_1288_0
  · exact chunk_apply _ hy 1024 1032 rfl slices_S513x2048_o0_1024_S513x256 inb_S2088x513_S256x513_1032_0
  · exact chunk_apply _ hy 768 776 rfl slices_S513x2048_o0_768_S513x256 inb_S2088x513_S256x513_776_0
  · exact chunk_apply _ hy 512 520 rfl slices_S513x2048_o0_512_S513x256 inb_S2088x513_S256x513_520_0
  · exact chunk_apply _ hy 256 264 rfl slices_S513x2048_o0_256_S513x256 inb_S2088x513_S256x513_264_0
  · exact chunk_apply _ hy 0 8 rfl slices_S513x2048_o0_0_S513x256 inb_S2088x513_S256x513_8_0
  · exact bottom_apply inb_S2088x513_S32x513_2056_0
  · exact top_apply inb_S2088x513_S8x513_0_0

section Kept

variable (c : Dev nD) (i : grid0.Coords)
  (arg2 : Memref sig .tc .vmem S1x1x513x2048 .f32) (harg2 : arg2.IsWhole)
  (arg3 : Memref sig .tc .vmem S1x1x513x256 .f32) (harg3 : arg3.IsWhole)
  (arg4 : Memref sig .tc .vmem S1x1x513x256 .f32) (harg4 : arg4.IsWhole)
  (arg5 : Memref sig .tc .vmem S2088x513 .bf16) (harg5 : arg5.IsWhole) (hc0 : cond0_0 i)

include harg3 harg4 harg5 hc0

/-- The ten pieces leave no entry out. -/
theorem ten_cover (x0 : Vec Ideal S1x1x513x2048 .f32) (y : S2088x513.Idx) :
    ∃ p ∈ kernelRun0_A.sl.HS0_10 (F := Ideal) c arg2 harg2 x0, y ∈ p.1.set := by
  have := scover0_A_0 (F := Ideal) c i arg2 harg2 arg3 harg3 arg4 harg4 arg5 harg5 hc0 x0 y
  unfold kernelRun0_A at this
  exact this

include hx

/-- What any buffer reads after the ten pieces. -/
theorem canon_rows : View.canon (kernelRun0_A.sl.HS0_10 (F := Ideal) c arg2 harg2 x0) = rows x b ch :=
  funext fun y => View.canon_apply_of_pieces (rows x b ch) _ (pieces_apply hx c arg2 harg2) y
    (ten_cover c i arg2 harg2 arg3 harg3 arg4 harg4 arg5 harg5 hc0 x0 y)

/-- What the first step of a block row keeps. -/
theorem kept_A : sout0_A_0 (F := Ideal) c i arg2 harg2 arg3 harg3 arg4 harg4 arg5 harg5 hc0 x0 = rows x b ch := by
  unfold sout0_A_0
  rw [View.read_writes_eq_canon _ _ _ (scover0_A_0 c _ _ _ _ _ _ _ _ _ _ _)]
  unfold kernelRun0_A
  dsimp only
  exact canon_rows hx c i arg2 harg2 arg3 harg3 arg4 harg4 arg5 harg5 hc0

/-- The rows the first step's medians read: the kept rows from its offset. -/
theorem loaded_A : kernelRun0_A.sl.r_2 (F := Ideal) c i arg2 harg2 arg5 x0
    = View.ld (rows x b ch) (Rect.unit (s := S2088x513) (k0_off1 i) S287x513.size (k0_off1_inb i)) := by
  unfold kernelRun0_A.sl.r_2
  rw [View.readAt_eq_ld, View.read_writes_eq_canon _ _ _ (ten_cover c i arg2 harg2 arg3 harg3 arg4 harg4 arg5 harg5 hc0 x0),
    canon_rows hx c i arg2 harg2 arg3 harg3 arg4 harg4 arg5 harg5 hc0]

end Kept

end Pieces

end Cert.Padded

end
-- ==== Proof.Steps.lean ====
/- One step of the kernel: what it stores, from the block it is given and the rows kept between steps.

   A step that starts a block row fills the kept rows first; the others find them there. Either way the two stored
   blocks are those of KernelMask.lean over 287 kept rows and 256 columns of the block, both from the step's offset. -/
module

public import proofs.«01_k».proof.Proof.Padded

@[expose] public section

noncomputable section

namespace Cert.Steps

open Idealize.ShloMosaic Idealize.ShloMosaic.TcCoe Idealize.SL.Sem
open Cert.KernelIdeal Cert.KernelIdeal.Gen Cert.Spectrum Cert.Columns Cert.KernelMask Cert.Padded

/-- The 287 kept rows a step reads. -/
def near (i : grid0.Coords) (k : Vec Ideal S2088x513 .bf16) : Vec Ideal S287x513 .bf16 :=
  View.ld k (Rect.unit (s := S2088x513) (k0_off1 i) S287x513.size (k0_off1_inb i))
/-- The 256 columns a step reads. -/
def window (i : grid0.Coords) (x0 : Vec Ideal S1x1x513x2048 .f32) : Vec Ideal S1x1x513x256 .f32 :=
  View.ld x0 (Rect.unit (s := S1x1x513x2048) (k0_off2 i) S1x1x513x256.size (k0_off2_inb i))

variable (x : Big.Idx → EReal) (b ch : ℕ) (c : Dev nD) (i : grid0.Coords)
  (arg2 : Memref sig .tc .vmem S1x1x513x2048 .f32) (harg2 : arg2.IsWhole)
  (arg3 : Memref sig .tc .vmem S1x1x513x256 .f32) (harg3 : arg3.IsWhole)
  (arg4 : Memref sig .tc .vmem S1x1x513x256 .f32) (harg4 : arg4.IsWhole)
  (arg5 : Memref sig .tc .vmem S2088x513 .bf16) (harg5 : arg5.IsWhole)
  (x0 : Vec Ideal S1x1x513x2048 .f32)

/-- Loading a step's columns gives `window`. -/
theorem window_read : View.readAt (Elt Ideal) arg2.view (Rect.unit (s := S1x1x513x2048) (k0_off2 i) S1x1x513x256.size
    (k0_off2_inb i)).toLoadRect (harg2.unread x0) = window i x0 := by
  rw [View.readAt_eq_ld, harg2.read_unread]; rfl

/-- The first block of a step that starts a block row. -/
theorem first_A (hc0 : cond0_0 i) (hx : Holds x b ch x0) :
    out0_A_1 (F := Ideal) c i arg2 harg2 arg3 harg3 arg4 harg4 arg5 harg5 hc0 x0
      = firstBlock (near i (rows x b ch)) (window i x0) := by
  unfold out0_A_1
  rw [View.read_writes_eq_canon _ _ _ (cover0_A_1 c _ _ _ _ _ _ _ _ _ _ _)]
  unfold kernelRun0_A
  dsimp only
  refine (View.canon_cons_unit_lit (S := S1x1x513x256) inb_S1x1x513x256_S1x1x513x256_0_0_0_0 _ [] (by decide)).trans ?_
  rw [near, ← loaded_A hx c i arg2 harg2 arg3 harg3 arg4 harg4 arg5 harg5 hc0, ← window_read i arg2 harg2]
  rfl

/-- The second block of a step that starts a block row. -/
theorem second_A (hc0 : cond0_0 i) (hx : Holds x b ch x0) :
    out0_A_2 (F := Ideal) c i arg2 harg2 arg3 harg3 arg4 harg4 arg5 harg5 hc0 x0
      = secondBlock (near i (rows x b ch)) (window i x0) := by
  unfold out0_A_2
  rw [View.read_writes_eq_canon _ _ _ (cover0_A_2 c _ _ _ _ _ _ _ _ _ _ _)]
  unfold kernelRun0_A
  dsimp only
  refine (View.canon_cons_unit_lit (S := S1x1x513x256) inb_S1x1x513x256_S1x1x513x256_0_0_0_0 _ [] (by decide)).trans ?_
  rw [near, ← loaded_A hx c i arg2 harg2 arg3 harg3 arg4 harg4 arg5 harg5 hc0, ← window_read i arg2 harg2]
  rfl

/-- Loading a step's rows gives `near`, from whatever is kept. -/
theorem near_read (xs0 : Vec Ideal S2088x513 .bf16) : View.readAt (Elt Ideal) arg5.view (Rect.unit (s := S2088x513)
    (k0_off1 i) S287x513.size (k0_off1_inb i)).toLoadRect (harg5.unread xs0) = near i xs0 := by
  rw [View.readAt_eq_ld, harg5.read_unread]; rfl

/-- The first block of any other step, over the rows it finds kept. -/
theorem first_B (hc0 : ¬cond0_0 i) (xs0 : Vec Ideal S2088x513 .bf16) :
    out0_B_1 (F := Ideal) c i arg2 harg2 arg3 harg3 arg4 harg4 arg5 harg5 hc0 x0 xs0
      = firstBlock (near i xs0) (window i x0) := by
  unfold out0_B_1
  rw [View.read_writes_eq_canon _ _ _ (cover0_B_1 c _ _ _ _ _ _ _ _ _ _ _ _)]
  unfold kernelRun0_B
  dsimp only
  refine (View.canon_cons_unit_lit (S := S1x1x513x256) inb_S1x1x513x256_S1x1x513x256_0_0_0_0 _ [] (by decide)).trans ?_
  rw [← near_read i arg5 harg5, ← window_read i arg2 harg2]
  rfl

/-- The second block of any other step, over the rows it finds kept. -/
theorem second_B (hc0 : ¬cond0_0 i) (xs0 : Vec Ideal S2088x513 .bf16) :
    out0_B_2 (F := Ideal) c i arg2 harg2 arg3 harg3 arg4 harg4 arg5 harg5 hc0 x0 xs0
      = secondBlock (near i xs0) (window i x0) := by
  unfold out0_B_2
  rw [View.read_writes_eq_canon _ _ _ (cover0_B_2 c _ _ _ _ _ _ _ _ _ _ _ _)]
  unfold kernelRun0_B
  dsimp only
  refine (View.canon_cons_unit_lit (S := S1x1x513x256) inb_S1x1x513x256_S1x1x513x256_0_0_0_0 _ [] (by decide)).trans ?_
  rw [← near_read i arg5 harg5, ← window_read i arg2 harg2]
  rfl

end Cert.Steps

end
-- ==== Proof.Trajectory.lean ====
/- The kernel's steps in order.

   Step `t` of the 64 works on batch `t / 16`, channel `t / 8 % 2` and the 256 columns from `256 * (t % 8)`. After every
   step the kept rows are the padded, transposed spectrogram of that batch and channel: the first of eight steps writes
   it, the other seven leave it alone. So every step stores the same two functions of the whole input. -/
module

public import proofs.«01_k».proof.Proof.Steps

@[expose] public section

noncomputable section

namespace Cert.Trajectory

open Idealize.ShloMosaic Idealize.ShloMosaic.TcCoe Idealize.SL.Sem
open Cert.KernelIdeal Cert.KernelIdeal.Gen Cert.Spectrum Cert.Columns Cert.KernelMask Cert.Padded Cert.Steps

/-- The block a step is given: batch `t / 16`, channel `t / 8 % 2`. -/
theorem block_at : ∀ t : Fin cfg0.N, win0_0.index t (0 : Fin 4) = t.val / 16 ∧ win0_0.index t (1 : Fin 4) = t.val / 8 % 2
    ∧ win0_0.index t (2 : Fin 4) = 0 ∧ win0_0.index t (3 : Fin 4) = 0 :=
  (by decide +kernel : ∀ t : Fin grid0.N, _)

/-- The first kept row a step reads. -/
theorem row_at : ∀ t : Fin cfg0.N, k0_off1 (grid0.coords t) (0 : Fin 2) = 256 * (t.val % 8)
    ∧ k0_off1 (grid0.coords t) (1 : Fin 2) = 0 :=
  (by decide +kernel : ∀ t : Fin grid0.N, _)

/-- The first column a step reads. -/
theorem column_at : ∀ t : Fin cfg0.N, k0_off2 (grid0.coords t) (0 : Fin 4) = 0 ∧ k0_off2 (grid0.coords t) (1 : Fin 4) = 0
    ∧ k0_off2 (grid0.coords t) (2 : Fin 4) = 0 ∧ k0_off2 (grid0.coords t) (3 : Fin 4) = 256 * (t.val % 8) :=
  (by decide +kernel : ∀ t : Fin grid0.N, _)

variable (m : (ℓ : Loc nD τ sig) → Buf (Elt Ideal) ℓ) (c : Dev nD)

/-- The spectrogram the program starts from. -/
abbrev input : Big.Idx → EReal := m ((c : Thread nD τ).loc main_arg0)

/-- What a step is given is the spectrogram of its batch and channel. -/
theorem block_holds (t : Fin cfg0.N) : Holds (input m c) (t.val / 16) (t.val / 8 % 2) (iblk (F := Ideal) m c 0 t) := by
  intro y
  obtain ⟨e0, e1, e2, e3⟩ := block_at t
  have hb0 : (((cfg0.win 0).blk t).view.emb y 0).val = win0_0.index t (0 : Fin 4) * 1 + 1 * (y 0).val := rfl
  have hb1 : (((cfg0.win 0).blk t).view.emb y 1).val = win0_0.index t (1 : Fin 4) * 1 + 1 * (y 1).val := rfl
  have hb2 : (((cfg0.win 0).blk t).view.emb y 2).val = win0_0.index t (2 : Fin 4) * 513 + 1 * (y 2).val := rfl
  have hb3 : (((cfg0.win 0).blk t).view.emb y 3).val = win0_0.index t (3 : Fin 4) * 2048 + 1 * (y 3).val := rfl
  have hy0 : (y 0).val < 1 := (y 0).isLt
  have hy1 : (y 1).val < 1 := (y 1).isLt
  exact (entry_of (input m c) _ _ _ _ (((cfg0.win 0).blk t).view.emb y) (by rw [hb0, e0]; omega) (by rw [hb1, e1]; omega)
    (by rw [hb2, e2]; omega) (by rw [hb3, e3]; omega)).symm

/-- A step that starts a block row fills the kept rows. -/
theorem filled (t : Fin cfg0.N) (h0 : t.val % 8 = 0) :
    sout0_A_0 (F := Ideal) c (grid0.coords t) (ms0_0 t) (hs0_0 t) (ms0_1 t) (hs0_1 t) (ms0_2 t) (hs0_2 t) scM0_0
      (Memref.isWhole_whole _) ((hcond0_0 t).mpr h0) (iblk m c 0 t)
      = rows (input m c) (t.val / 16) (t.val / 8 % 2) :=
  kept_A (block_holds m c t) c (grid0.coords t) (ms0_0 t) (hs0_0 t) (ms0_1 t) (hs0_1 t) (ms0_2 t) (hs0_2 t) scM0_0
      (Memref.isWhole_whole _) ((hcond0_0 t).mpr h0)

/-- After a step that starts a block row the kept rows are the padded, transposed spectrogram. -/
theorem kept_start (t : Fin cfg0.N) (h0 : t.val % 8 = 0) :
    (outsAt0 (F := Ideal) m c t.val t.isLt).2.2 = rows (input m c) (t.val / 16) (t.val / 8 % 2) := by
  rw [outsAt0_A m c t h0]
  dsimp only
  rw [filled m c t h0]

/-- Any other step leaves the kept rows alone. -/
theorem kept_other (t : Fin cfg0.N) (h0 : ¬t.val % 8 = 0) : (outsAt0 (F := Ideal) m c t.val t.isLt).2.2
    = (outsAt0 m c (t.val - 1) (Nat.lt_of_le_of_lt (Nat.sub_le _ _) t.isLt)).2.2 := by
  rw [outsAt0_B m c t h0]
  rfl

/-- After every step the kept rows are the padded, transposed spectrogram of the step's batch and channel. -/
theorem kept (n : ℕ) : ∀ hn : n < cfg0.N,
    (outsAt0 (F := Ideal) m c n hn).2.2 = rows (input m c) (n / 16) (n / 8 % 2) := by
  induction n with
  | zero => exact fun hn => kept_start m c ⟨0, hn⟩ (Nat.zero_mod 8)
  | succ n ih =>
    intro hn
    by_cases h0 : (n + 1) % 8 = 0
    · exact kept_start m c ⟨n + 1, hn⟩ h0
    · have e := (kept_other m c ⟨n + 1, hn⟩ h0).trans (ih (Nat.lt_of_succ_lt hn))
      rw [show n / 16 = (n + 1) / 16 by omega, show n / 8 = (n + 1) / 8 by omega] at e
      exact e

/-- What the step before left, at a step that starts no block row. -/
theorem carried (t : Fin cfg0.N) (h0 : ¬t.val % 8 = 0) (hn : t.val - 1 < cfg0.N) :
    (outsAt0 (F := Ideal) m c (t.val - 1) hn).2.2 = rows (input m c) (t.val / 16) (t.val / 8 % 2) := by
  rw [kept, show (t.val - 1) / 16 = t.val / 16 by omega, show (t.val - 1) / 8 = t.val / 8 by omega]

/-- The first of the two blocks step `t` stores. -/
def firstOf (t : Fin cfg0.N) : FVec Ideal S1x1x513x256 .f32 :=
  firstBlock (near (grid0.coords t) (rows (input m c) (t.val / 16) (t.val / 8 % 2)))
    (window (grid0.coords t) (iblk (F := Ideal) m c 0 t))

/-- The second of the two blocks step `t` stores. -/
def secondOf (t : Fin cfg0.N) : FVec Ideal S1x1x513x256 .f32 :=
  secondBlock (near (grid0.coords t) (rows (input m c) (t.val / 16) (t.val / 8 % 2)))
    (window (grid0.coords t) (iblk (F := Ideal) m c 0 t))

/-- The first block of a step that starts a block row. -/
theorem first_start (t : Fin cfg0.N) (h0 : t.val % 8 = 0) :
    out0_A_1 (F := Ideal) c (grid0.coords t) (ms0_0 t) (hs0_0 t) (ms0_1 t) (hs0_1 t) (ms0_2 t) (hs0_2 t) scM0_0
      (Memref.isWhole_whole _) ((hcond0_0 t).mpr h0) (iblk m c 0 t)
      = firstOf m c t :=
  first_A (input m c) (t.val / 16) (t.val / 8 % 2) c (grid0.coords t) (ms0_0 t) (hs0_0 t) (ms0_1 t) (hs0_1 t) (ms0_2 t) (hs0_2 t) scM0_0
      (Memref.isWhole_whole _)
    (iblk m c 0 t) ((hcond0_0 t).mpr h0) (block_holds m c t)

/-- The first block of any other step. -/
theorem first_other (t : Fin cfg0.N) (h0 : ¬t.val % 8 = 0) :
    out0_B_1 (F := Ideal) c (grid0.coords t) (ms0_0 t) (hs0_0 t) (ms0_1 t) (hs0_1 t) (ms0_2 t) (hs0_2 t) scM0_0
      (Memref.isWhole_whole _) (fun h => h0 ((hcond0_0 t).mp h)) (iblk m c 0 t)
      (rows (input m c) (t.val / 16) (t.val / 8 % 2)) = firstOf m c t :=
  first_B c (grid0.coords t) (ms0_0 t) (hs0_0 t) (ms0_1 t) (hs0_1 t) (ms0_2 t) (hs0_2 t) scM0_0
      (Memref.isWhole_whole _)
    (iblk m c 0 t) (fun h => h0 ((hcond0_0 t).mp h)) (rows (input m c) (t.val / 16) (t.val / 8 % 2))

/-- The first block of every step. -/
theorem first_at (t : Fin cfg0.N) : (outsAt0 (F := Ideal) m c t.val t.isLt).1 = firstOf m c t := by
  by_cases h0 : t.val % 8 = 0
  · rw [outsAt0_A m c t h0]
    dsimp only
    rw [first_start m c t h0]
  · rw [outsAt0_B m c t h0, carried m c t h0]
    dsimp only
    rw [first_other m c t h0]

/-- The second block of a step that starts a block row. -/
theorem second_start (t : Fin cfg0.N) (h0 : t.val % 8 = 0) :
    out0_A_2 (F := Ideal) c (grid0.coords t) (ms0_0 t) (hs0_0 t) (ms0_1 t) (hs0_1 t) (ms0_2 t) (hs0_2 t) scM0_0
      (Memref.isWhole_whole _) ((hcond0_0 t).mpr h0) (iblk m c 0 t)
      = secondOf m c t :=
  second_A (input m c) (t.val / 16) (t.val / 8 % 2) c (grid0.coords t) (ms0_0 t) (hs0_0 t) (ms0_1 t) (hs0_1 t) (ms0_2 t) (hs0_2 t) scM0_0
      (Memref.isWhole_whole _)
    (iblk m c 0 t) ((hcond0_0 t).mpr h0) (block_holds m c t)

/-- The second block of any other step. -/
theorem second_other (t : Fin cfg0.N) (h0 : ¬t.val % 8 = 0) :
    out0_B_2 (F := Ideal) c (grid0.coords t) (ms0_0 t) (hs0_0 t) (ms0_1 t) (hs0_1 t) (ms0_2 t) (hs0_2 t) scM0_0
      (Memref.isWhole_whole _) (fun h => h0 ((hcond0_0 t).mp h)) (iblk m c 0 t)
      (rows (input m c) (t.val / 16) (t.val / 8 % 2)) = secondOf m c t :=
  second_B c (grid0.coords t) (ms0_0 t) (hs0_0 t) (ms0_1 t) (hs0_1 t) (ms0_2 t) (hs0_2 t) scM0_0
      (Memref.isWhole_whole _)
    (iblk m c 0 t) (fun h => h0 ((hcond0_0 t).mp h)) (rows (input m c) (t.val / 16) (t.val / 8 % 2))

/-- The second block of every step. -/
theorem second_at (t : Fin cfg0.N) : (outsAt0 (F := Ideal) m c t.val t.isLt).2.1 = secondOf m c t := by
  by_cases h0 : t.val % 8 = 0
  · rw [outsAt0_A m c t h0]
    dsimp only
    rw [second_start m c t h0]
  · rw [outsAt0_B m c t h0, carried m c t h0]
    dsimp only
    rw [second_other m c t h0]

end Cert.Trajectory

end
-- ==== Proof.Result.lean ====
/- The kernel's two results at every index.

   A step's 287 kept rows are the padded row from its offset on, so its 256 medians along time are those of its own
   columns; its 256 columns of the block give the medians along frequency. The two stored blocks are then the
   spectrogram kept in proportion to each median, and the steps' blocks fill the two arrays. -/
module

public import proofs.«01_k».proof.Proof.Trajectory

@[expose] public section

noncomputable section

namespace Cert.Result

open Idealize.ShloMosaic Idealize.ShloMosaic.TcCoe Idealize.SL.Sem
open Cert.KernelIdeal Cert.KernelIdeal.Gen Cert.KernelIdeal.Value
open Cert.Median Cert.Spectrum Cert.Columns Cert.KernelNet Cert.KernelMask Cert.Padded Cert.Steps Cert.Trajectory Cert.Mask

section Step

variable (x : Big.Idx → EReal) (b ch : ℕ) (t : Fin cfg0.N)

/-- A step's kept rows are the padded rows from its offset on. -/
theorem near_reads (f : ℕ) : Reads f (near (grid0.coords t) (rows x b ch))
    (ahead (256 * (t.val % 8)) (alongTime x b ch f)) := by
  intro i hi
  obtain ⟨e0, e1⟩ := row_at t
  show alongTime x b ch (k0_off1 (grid0.coords t) (1 : Fin 2) + 1 * (i 1).val)
    (k0_off1 (grid0.coords t) (0 : Fin 2) + 1 * (i 0).val) = alongTime x b ch f ((i 0).val + 256 * (t.val % 8))
  rw [e0, e1, hi]
  congr 1 <;> omega

/-- A step's columns are the spectrogram from its offset on. -/
theorem window_apply (x0 : Vec Ideal S1x1x513x2048 .f32) (hx : Holds x b ch x0) (j : S1x1x513x256.Idx) :
    window (grid0.coords t) x0 j = entry x b ch (j 2).val (256 * (t.val % 8) + (j 3).val) := by
  obtain ⟨e0, e1, e2, e3⟩ := column_at t
  refine (hx ((Rect.unit (s := S1x1x513x2048) (k0_off2 (grid0.coords t)) S1x1x513x256.size
    (k0_off2_inb (grid0.coords t))).emb j)).trans ?_
  show entry x b ch (k0_off2 (grid0.coords t) (2 : Fin 4) + 1 * (j 2).val)
    (k0_off2 (grid0.coords t) (3 : Fin 4) + 1 * (j 3).val) = _
  rw [e2, e3]
  congr 1 <;> omega

/-- A step's medians along time. -/
theorem harm_at (j : S1x1x513x256.Idx) :
    harmBlock (near (grid0.coords t) (rows x b ch)) (ValueIdx.ix2 (j 2) (j 3))
      = harm x b ch (j 2).val (256 * (t.val % 8) + (j 3).val) := by
  rw [harmBlock_apply (ValueIdx.ix2 (j 2) (j 3)) (near_reads x b ch t (j 2).val)]
  show net (ahead (256 * (t.val % 8)) (alongTime x b ch (j 2).val)) (j 3).val = _
  rw [net_ahead, Nat.add_comm, harm]

/-- A step's medians along frequency. -/
theorem perc_at (x0 : Vec Ideal S1x1x513x2048 .f32) (hx : Holds x b ch x0) (j : S1x1x513x256.Idx) :
    percBlock (window (grid0.coords t) x0) (ValueIdx.ix2 (j 2) (j 3))
      = perc x b ch (j 2).val (256 * (t.val % 8) + (j 3).val) :=
  percBlock_apply (ValueIdx.ix2 (j 2) (j 3)) (padded_reads x b ch (256 * (t.val % 8) + (j 3).val) _ (j 3).val
    fun k hk => by rw [window_apply x b ch t x0 hx, hk])

end Step

variable (m : (ℓ : Loc nD τ sig) → Buf (Elt Ideal) ℓ) (c : Dev nD)

/-- The share of an entry that goes to the first result: its median along time against that along frequency. -/
def harmonic (x : Big.Idx → EReal) (b ch f n : ℕ) : EReal :=
  keep (entry x b ch f n) (harm x b ch f n) (perc x b ch f n)

/-- The share of an entry that goes to the second result: the medians the other way round. -/
def percussive (x : Big.Idx → EReal) (b ch f n : ℕ) : EReal :=
  keep (entry x b ch f n) (perc x b ch f n) (harm x b ch f n)

/-- A step's first block. -/
theorem firstOf_apply (t : Fin cfg0.N) (j : S1x1x513x256.Idx) : firstOf m c t j
    = harmonic (input m c) (t.val / 16) (t.val / 8 % 2) (j 2).val (256 * (t.val % 8) + (j 3).val) := by
  rw [firstOf, firstBlock_apply, harm_at, perc_at _ _ _ _ _ (block_holds m c t),
    window_apply _ _ _ _ _ (block_holds m c t), harmonic]

/-- A step's second block. -/
theorem secondOf_apply (t : Fin cfg0.N) (j : S1x1x513x256.Idx) : secondOf m c t j
    = percussive (input m c) (t.val / 16) (t.val / 8 % 2) (j 2).val (256 * (t.val % 8) + (j 3).val) := by
  rw [secondOf, secondBlock_apply, harm_at, perc_at _ _ _ _ _ (block_holds m c t),
    window_apply _ _ _ _ _ (block_holds m c t), percussive]

/-- The step that stores an index's place. -/
theorem step_of (i : S4x2x513x2048.Idx) : 16 * (i 0).val + 8 * (i 1).val + (i 3).val / 256 < cfg0.N := by
  have h0 : (i 0).val < 4 := (i 0).isLt
  have h1 : (i 1).val < 2 := (i 1).isLt
  have h3 : (i 3).val < 2048 := (i 3).isLt
  exact lt_of_lt_of_eq (by omega) N_0.symm

/-- Where an index's step and place in the block lie is the index itself. -/
theorem place (g : ℕ → ℕ → ℕ → ℕ → EReal) (i : S4x2x513x2048.Idx) (n : ℕ)
    (hn : n = 16 * (i 0).val + 8 * (i 1).val + (i 3).val / 256) :
    g (n / 16) (n / 8 % 2) ((i 2).val % 513) (256 * (n % 8) + (i 3).val % 256)
      = g (i 0).val (i 1).val (i 2).val (i 3).val := by
  have h0 : (i 0).val < 4 := (i 0).isLt
  have h1 : (i 1).val < 2 := (i 1).isLt
  have h2 : (i 2).val < 513 := (i 2).isLt
  have h3 : (i 3).val < 2048 := (i 3).isLt
  rw [show n / 16 = (i 0).val by omega, show n / 8 % 2 = (i 1).val by omega, Nat.mod_eq_of_lt h2,
    show 256 * (n % 8) + (i 3).val % 256 = (i 3).val by omega]

/-- The number of the step, as the array's blocks are numbered. -/
theorem number (i : S4x2x513x2048.Idx) : pt1Of i = 16 * (i 0).val + 8 * (i 1).val + (i 3).val / 256 := by
  have h2 : (i 2).val < 513 := (i 2).isLt
  show 16 * ((i 0).val / 1 - 0) + 8 * ((i 1).val / 1 - 0) + 8 * ((i 2).val / 513 - 0) + 1 * ((i 3).val / 256 - 0) = _
  omega

/-- The kernel's first result. -/
theorem G1_apply (i : S4x2x513x2048.Idx) : G1 (F := Ideal) m c i
    = harmonic (input m c) (i 0).val (i 1).val (i 2).val (i 3).val := by
  have hp : pt1Of i < cfg0.N := lt_of_eq_of_lt (number i) (step_of i)
  unfold G1
  rw [dif_pos hp, ← outsAt0_sweep m c (pt1Of i) hp, first_at m c ⟨pt1Of i, hp⟩, firstOf_apply]
  exact place (harmonic (input m c)) i (pt1Of i) (number i)

/-- The kernel's second result. -/
theorem G2_apply (i : S4x2x513x2048.Idx) : G2 (F := Ideal) m c i
    = percussive (input m c) (i 0).val (i 1).val (i 2).val (i 3).val := by
  have hp : pt2Of i < cfg0.N := lt_of_eq_of_lt (number i) (step_of i)
  unfold G2
  rw [dif_pos hp, ← outsAt0_sweep m c (pt2Of i) hp, second_at m c ⟨pt2Of i, hp⟩, secondOf_apply]
  exact place (percussive (input m c)) i (pt2Of i) (number i)

end Cert.Result

end
-- ==== Proof.lean ====
/- The five claims, assembled.

   The kernel's two frames are the generated ones. The reference's frame and results come from its generated run, its
   stages read by RefValue.lean. The kernel's results are read by Result.lean. Both sides are the same function of the
   spectrogram at every index, so the results are equal. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.RefValue
public import proofs.«01_k».proof.Proof.Result
public import Idealize.ShloMosaic.Adequacy
public import Idealize.ShloMosaic.Init

@[expose] public section

noncomputable section

namespace Cert.Proof

open Idealize.ShloMosaic Idealize.SL.Sem

section Reference

open Cert.ReferenceIdeal Cert.ReferenceIdeal.Value Idealize.ShloMosaic.StableHlo

variable (m : (ℓ : Loc nD τ sig) → Buf (Elt Ideal) ℓ) (ρ : Dev nD → PrngReg)

/-- The reference's run, its results as the composed stages of its argument. -/
theorem reference_run : θ_run (defs (F := Ideal)) (onTc (τ := τ) (main (F := Ideal))) ⟨m, fun _ => 0, ρ⟩ fun r => ∀ c : Dev nD,
    r.2.mem ((c.tc : Thread nD τ).loc main_v108) = Cert.ReferenceIdeal.Read.val_main_v108 (F := Ideal) (m ((c.tc : Thread nD τ).loc main_arg0))
    ∧ r.2.mem ((c.tc : Thread nD τ).loc main_v109) = Cert.ReferenceIdeal.Read.val_main_v109 (F := Ideal) (m ((c.tc : Thread nD τ).loc main_arg0))
    ∧ r.2.mem ((c.tc : Thread nD τ).loc main_arg0) = m ((c.tc : Thread nD τ).loc main_arg0) :=
  (θ_run (defs (F := Ideal)) _ _).mono (fun _ h c =>
    ⟨(h c).1.trans (Cert.ReferenceIdeal.Read.val_main_v108_eq (launchContents m c)), (h c).2.1.trans (Cert.ReferenceIdeal.Read.val_main_v109_eq (launchContents m c)),
      (h c).2.2⟩) (run m ρ)

/-- The reference leaves its argument alone, and has no counter that could be left away from zero. -/
theorem reference_frame : θ_run (defs (F := Ideal)) (onTc (τ := τ) (main (F := Ideal))) ⟨m, fun _ => 0, ρ⟩ fun r =>
    (∀ c : Dev nD, r.2.mem ((c.tc : Thread nD τ).loc main_arg0) = m ((c.tc : Thread nD τ).loc main_arg0))
      ∧ r.2.sem = fun _ => 0 :=
  (θ_run (defs (F := Ideal)) _ _).mono (fun r h => ⟨fun c => (h c).2.2, sem_eq_zero_of_no_sems (by decide) r.2⟩)
    (reference_run m ρ)

end Reference

/-- The kernel's first result is the reference's. -/
theorem first_eq (m : (ℓ : Loc Cert.KernelIdeal.nD Cert.KernelIdeal.τ Cert.KernelIdeal.sig) → Buf (Elt Ideal) ℓ)
    (c : Dev Cert.KernelIdeal.nD) : Cert.ReferenceIdeal.Read.val_main_v108 (F := Ideal) (Cert.Trajectory.input m c)
      = Cert.KernelIdeal.Value.G1 (F := Ideal) m c := by
  funext i
  rw [Cert.RefValue.first_apply, Cert.Result.G1_apply, Cert.Result.harmonic, Cert.Spectrum.entry_of _ _ _ _ _ i rfl rfl rfl rfl]

/-- The kernel's second result is the reference's. -/
theorem second_eq (m : (ℓ : Loc Cert.KernelIdeal.nD Cert.KernelIdeal.τ Cert.KernelIdeal.sig) → Buf (Elt Ideal) ℓ)
    (c : Dev Cert.KernelIdeal.nD) : Cert.ReferenceIdeal.Read.val_main_v109 (F := Ideal) (Cert.Trajectory.input m c)
      = Cert.KernelIdeal.Value.G2 (F := Ideal) m c := by
  funext i
  rw [Cert.RefValue.second_apply, Cert.Result.G2_apply, Cert.Result.percussive, Cert.Spectrum.entry_of _ _ _ _ _ i rfl rfl rfl rfl]

/-- Every claim of the statement. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => reference_frame m ρ,
  trivial,
  fun m g m' g' _ hm => ⟨fun c => Cert.KernelIdeal.Value.G1 m c, fun c => Cert.KernelIdeal.Value.G2 m c,
    Cert.KernelIdeal.Value.run m g,
    (θ_run (Cert.ReferenceIdeal.defs (F := Ideal)) _ _).mono (fun _ h c =>
      ⟨(h c).1.trans ((congrArg (Cert.ReferenceIdeal.Read.val_main_v108 (F := Ideal)) (hm c)).trans (first_eq m c)),
        (h c).2.1.trans ((congrArg (Cert.ReferenceIdeal.Read.val_main_v109 (F := Ideal)) (hm c)).trans (second_eq m c)),
        (h c).2.2⟩) (reference_run m' g')⟩⟩

end Cert.Proof

end
